-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_on_in_range [hKernelIdeal : Cert.KernelIdeal.Facts] [hReferenceIdeal : Cert.ReferenceIdeal.Facts] [hOn_in_range : Cert.On_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![41, 1024, 3584]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v2_0) i = v0 c i)
          ∧ (∀ i : (⟨3, ![41, 1024, 3584]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v2_1) i = v1 c i)
          ∧ (∀ i : (⟨3, ![41, 1024, 28]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 i = 1#1 → r.2.mem ((c.tc : Thread Cert.KernelIdeal.nD Cert.KernelIdeal.τ).loc Cert.KernelIdeal.main_v3) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![41, 1024, 3584]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v3) i = v0 c i)
          ∧ (∀ i : (⟨3, ![41, 1024, 3584]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v44) i = v1 c i)
          ∧ (∀ i : (⟨3, ![41, 1024, 28]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 i = 1#1 → r.2.mem ((c.tc : Thread Cert.ReferenceIdeal.nD Cert.ReferenceIdeal.τ).loc Cert.ReferenceIdeal.main_v35) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_in_range : Cert.On_in_range.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_in_range (hKernelIdeal := hKernelIdeal) (hReferenceIdeal := hReferenceIdeal) (hOn_in_range := hOn_in_range)
-- ==== On_in_range.lean ====
abbrev S41x1024x3584 : Shape := ⟨3, ![41, 1024, 3584]⟩
abbrev S3584 : Shape := ⟨1, ![3584]⟩
abbrev S41x1024x28x128 : Shape := ⟨4, ![41, 1024, 28, 128]⟩
abbrev S_ : Shape := ⟨0, ![]⟩
abbrev S41x1024 : Shape := ⟨2, ![41, 1024]⟩
abbrev S41x1024x1x1 : Shape := ⟨4, ![41, 1024, 1, 1]⟩
abbrev S1x1x28x128 : Shape := ⟨4, ![1, 1, 28, 128]⟩
abbrev S41x1024x28 : Shape := ⟨3, ![41, 1024, 28]⟩
abbrev S41x1024x28x1 : Shape := ⟨4, ![41, 1024, 28, 1]⟩

class Facts : Prop where
  bitsLt_bf16_f32 : FTy.bits .bf16 < FTy.bits .f32
  shapeCasts_S41x1024x3584_S41x1024x28x128 : S41x1024x3584.ShapeCasts S41x1024x28x128
  reducesTo_S41x1024x28x128_S41x1024_d2_3 : S41x1024x28x128.ReducesTo [2, 3] S41x1024
  h_S_ : 0 < S_.numel
  bcast_S41x1024_S41x1024x1x1_0_1 : S41x1024.BroadcastsInDim S41x1024x1x1 (![0, 1] : Fin 2 → Fin S41x1024x1x1.rank)
  bcast_S_S41x1024x1x1 : S_.BroadcastsInDim S41x1024x1x1 (![] : Fin 0 → Fin S41x1024x1x1.rank)
  bcast_S41x1024x1x1_S41x1024x28x128_0_1_2_3 : S41x1024x1x1.BroadcastsInDim S41x1024x28x128 (![0, 1, 2, 3] : Fin 4 → Fin S41x1024x28x128.rank)
  shapeCasts_S3584_S1x1x28x128 : S3584.ShapeCasts S1x1x28x128
  bcast_S1x1x28x128_S41x1024x28x128_0_1_2_3 : S1x1x28x128.BroadcastsInDim S41x1024x28x128 (![0, 1, 2, 3] : Fin 4 → Fin S41x1024x28x128.rank)
  reducesTo_S41x1024x28x128_S41x1024x28_d3 : S41x1024x28x128.ReducesTo [3] S41x1024x28
  bcast_S_S41x1024x28 : S_.BroadcastsInDim S41x1024x28 (![] : Fin 0 → Fin S41x1024x28.rank)
  bcast_S41x1024x28_S41x1024x28x1_0_1_2 : S41x1024x28.BroadcastsInDim S41x1024x28x1 (![0, 1, 2] : Fin 3 → Fin S41x1024x28x1.rank)
  bcast_S41x1024x28x1_S41x1024x28x128_0_1_2_3 : S41x1024x28x1.BroadcastsInDim S41x1024x28x128 (![0, 1, 2, 3] : Fin 4 → Fin S41x1024x28x128.rank)
  shapeCasts_S41x1024x28x128_S41x1024x3584 : S41x1024x28x128.ShapeCasts S41x1024x3584
  bcast_S_S41x1024x3584 : S_.BroadcastsInDim S41x1024x3584 (![] : Fin 0 → Fin S41x1024x3584.rank)

variable [Facts]

def fn_part2 {F : FTy → Type} [FloatOps F] (main_v23 : FVec F S41x1024x28 .f32) (main_v31 : IVec S41x1024x28 1) (main_v33 : IVec S41x1024x28 1) (main_v35 : IVec S41x1024x28 1) (main_v36 : FVec F S41x1024x28 .f32) : IVec S41x1024x3584 1 × IVec S41x1024x3584 1 × IVec S41x1024x28 1 :=
  let main_v37 : IVec S41x1024x28 1 := cmpf .olt main_v23 main_v36
  let main_v38 : IVec S41x1024x28 1 := andi main_v35 main_v37
  let main_v39 : IVec S41x1024x28 1 := ori main_v33 main_v38
  let main_v40 : IVec S41x1024x28x1 1 := broadcastInDim S41x1024x28x1 ![0, 1, 2] bcast_S41x1024x28_S41x1024x28x1_0_1_2 main_v31
  let main_v41 : IVec S41x1024x28x128 1 := broadcastInDim S41x1024x28x128 ![0, 1, 2, 3] bcast_S41x1024x28x1_S41x1024x28x128_0_1_2_3 main_v40
  let main_v42 : IVec S41x1024x3584 1 := shapeCast S41x1024x3584 main_v41 shapeCasts_S41x1024x28x128_S41x1024x3584
  let main_c : IVec S_ 1 := constantI S_ 1 1#1
  let main_v43 : IVec S41x1024x3584 1 := broadcastInDim S41x1024x3584 ![] bcast_S_S41x1024x3584 main_c
  (main_v43, main_v42, main_v39)

def fn_part1 {F : FTy → Type} [FloatOps F] (main_v20 : FVec F S41x1024x28x128 .f32) : IVec S41x1024x3584 1 × IVec S41x1024x3584 1 × IVec S41x1024x28 1 :=
  let main_cst_2 : FVec F S_ .f32 := constant S_ .f32 0xFF800000#32
  let main_v21 : FVec F S41x1024x28 .f32 := (fun x v => Host.reduce FloatOps.maximumf x v reducesTo_S41x1024x28x128_S41x1024x28_d3 h_S_) main_v20 main_cst_2
  let main_cst_3 : FVec F S_ .f32 := constant S_ .f32 0x3B124925#32
  let main_v22 : FVec F S41x1024x28 .f32 := broadcastInDim S41x1024x28 ![] bcast_S_S41x1024x28 main_cst_3
  let main_v23 : FVec F S41x1024x28 .f32 := mulf main_v21 main_v22
  let main_cst_4 : FVec F S_ .f32 := constant S_ .f32 0x00000000#32
  let main_v24 : FVec F S41x1024x28 .f32 := broadcastInDim S41x1024x28 ![] bcast_S_S41x1024x28 main_cst_4
  let main_v25 : IVec S41x1024x28 1 := cmpf .oeq main_v21 main_v24
  let main_cst_5 : FVec F S_ .f32 := constant S_ .f32 0x00400000#32
  let main_v26 : FVec F S41x1024x28 .f32 := broadcastInDim S41x1024x28 ![] bcast_S_S41x1024x28 main_cst_5
  let main_v27 : IVec S41x1024x28 1 := cmpf .oge main_v23 main_v26
  let main_cst_6 : FVec F S_ .f32 := constant S_ .f32 0x7E800000#32
  let main_v28 : FVec F S41x1024x28 .f32 := broadcastInDim S41x1024x28 ![] bcast_S_S41x1024x28 main_cst_6
  let main_v29 : IVec S41x1024x28 1 := cmpf .olt main_v23 main_v28
  let main_v30 : IVec S41x1024x28 1 := andi main_v27 main_v29
  let main_v31 : IVec S41x1024x28 1 := ori main_v25 main_v30
  let main_cst_7 : FVec F S_ .f32 := constant S_ .f32 0x00000000#32
  let main_v32 : FVec F S41x1024x28 .f32 := broadcastInDim S41x1024x28 ![] bcast_S_S41x1024x28 main_cst_7
  let main_v33 : IVec S41x1024x28 1 := cmpf .oeq main_v21 main_v32
  let main_cst_8 : FVec F S_ .f32 := constant S_ .f32 0x00800000#32
  let main_v34 : FVec F S41x1024x28 .f32 := broadcastInDim S41x1024x28 ![] bcast_S_S41x1024x28 main_cst_8
  let main_v35 : IVec S41x1024x28 1 := cmpf .oge main_v23 main_v34
  let main_cst_9 : FVec F S_ .f32 := constant S_ .f32 0x7F000000#32
  let main_v36 : FVec F S41x1024x28 .f32 := broadcastInDim S41x1024x28 ![] bcast_S_S41x1024x28 main_cst_9
  fn_part2 (F := F) main_v23 main_v31 main_v33 main_v35 main_v36

def fn {F : FTy → Type} [FloatOps F] (main_arg0 : FVec F S41x1024x3584 .bf16) (main_arg1 : FVec F S41x1024x3584 .bf16) (main_arg2 : FVec F S3584 .bf16) : IVec S41x1024x3584 1 × IVec S41x1024x3584 1 × IVec S41x1024x28 1 :=
  let main_v0 : FVec F S41x1024x3584 .f32 := (extf .f32 · bitsLt_bf16_f32) main_arg0
  let main_v1 : FVec F S41x1024x3584 .f32 := (extf .f32 · bitsLt_bf16_f32) main_arg1
  let main_v2 : FVec F S41x1024x3584 .f32 := addf main_v0 main_v1
  let main_v3 : FVec F S41x1024x3584 .bf16 := (truncf .bf16 · bitsLt_bf16_f32) main_v2
  let main_v4 : FVec F S41x1024x28x128 .bf16 := shapeCast S41x1024x28x128 main_v3 shapeCasts_S41x1024x3584_S41x1024x28x128
  let main_v5 : FVec F S41x1024x28x128 .f32 := (extf .f32 · bitsLt_bf16_f32) main_v4
  let main_v6 : FVec F S41x1024x28x128 .f32 := mulf main_v5 main_v5
  let main_cst : FVec F S_ .f32 := constant S_ .f32 0x00000000#32
  let main_v7 : FVec F S41x1024 .f32 := (fun x v => Host.reduceAdd x v reducesTo_S41x1024x28x128_S41x1024_d2_3 h_S_) main_v6 main_cst
  let main_v8 : FVec F S41x1024x1x1 .f32 := broadcastInDim S41x1024x1x1 ![0, 1] bcast_S41x1024_S41x1024x1x1_0_1 main_v7
  let main_cst_0 : FVec F S_ .f32 := constant S_ .f32 0x45600000#32
  let main_v9 : FVec F S41x1024x1x1 .f32 := broadcastInDim S41x1024x1x1 ![] bcast_S_S41x1024x1x1 main_cst_0
  let main_v10 : FVec F S41x1024x1x1 .f32 := Host.divf main_v8 main_v9
  let main_cst_1 : FVec F S_ .f32 := constant S_ .f32 0x358637BD#32
  let main_v11 : FVec F S41x1024x1x1 .f32 := broadcastInDim S41x1024x1x1 ![] bcast_S_S41x1024x1x1 main_cst_1
  let main_v12 : FVec F S41x1024x1x1 .f32 := addf main_v10 main_v11
  let main_v13 : FVec F S41x1024x1x1 .f32 := Host.rsqrt main_v12
  let main_v14 : FVec F S41x1024x28x128 .f32 := broadcastInDim S41x1024x28x128 ![0, 1, 2, 3] bcast_S41x1024x1x1_S41x1024x28x128_0_1_2_3 main_v13
  let main_v15 : FVec F S41x1024x28x128 .f32 := mulf main_v5 main_v14
  let main_v16 : FVec F S3584 .f32 := (extf .f32 · bitsLt_bf16_f32) main_arg2
  let main_v17 : FVec F S1x1x28x128 .f32 := shapeCast S1x1x28x128 main_v16 shapeCasts_S3584_S1x1x28x128
  let main_v18 : FVec F S41x1024x28x128 .f32 := broadcastInDim S41x1024x28x128 ![0, 1, 2, 3] bcast_S1x1x28x128_S41x1024x28x128_0_1_2_3 main_v17
  let main_v19 : FVec F S41x1024x28x128 .f32 := mulf main_v15 main_v18
  let main_v20 : FVec F S41x1024x28x128 .f32 := Host.absf main_v19
  fn_part1 (F := F) main_v20
-- ==== Kernel.lean ====
abbrev S41x1024x3584 : Shape := ⟨3, ![41, 1024, 3584]⟩
abbrev S3584 : Shape := ⟨1, ![3584]⟩
abbrev S1x3584 : Shape := ⟨2, ![1, 3584]⟩
abbrev S41x28x1024 : Shape := ⟨3, ![41, 28, 1024]⟩
abbrev S1x512x3584 : Shape := ⟨3, ![1, 512, 3584]⟩
abbrev S1x28x512 : Shape := ⟨3, ![1, 28, 512]⟩
abbrev S512x128 : Shape := ⟨2, ![512, 128]⟩
abbrev S32x128 : Shape := ⟨2, ![32, 128]⟩
abbrev S1x32x128 : Shape := ⟨3, ![1, 32, 128]⟩
abbrev S32 : Shape := ⟨1, ![32]⟩
abbrev S32x1 : Shape := ⟨2, ![32, 1]⟩
abbrev S1x128 : Shape := ⟨2, ![1, 128]⟩
abbrev S128x128 : Shape := ⟨2, ![128, 128]⟩
abbrev S28x128 : Shape := ⟨2, ![28, 128]⟩
abbrev S1x28x128 : Shape := ⟨3, ![1, 28, 128]⟩
abbrev S41x1024x28 : Shape := ⟨3, ![41, 1024, 28]⟩

abbrev nBuf : Space → Nat
  | .hbm => 9
  | .vmem => 12
  | .smem => 0
  | _ => 0

abbrev bufTy : (tb : Table) → Fin (tcTables nBuf tb) → BufTy
  | .hbm, ⟨0, _⟩ => ⟨S41x1024x3584, .bf16⟩
  | .hbm, ⟨1, _⟩ => ⟨S41x1024x3584, .bf16⟩
  | .hbm, ⟨2, _⟩ => ⟨S3584, .bf16⟩
  | .hbm, ⟨3, _⟩ => ⟨S3584, .f32⟩
  | .hbm, ⟨4, _⟩ => ⟨S1x3584, .f32⟩
  | .hbm, ⟨5, _⟩ => ⟨S41x1024x3584, .bf16⟩
  | .hbm, ⟨6, _⟩ => ⟨S41x1024x3584, .fp8e4m3⟩
  | .hbm, ⟨7, _⟩ => ⟨S41x28x1024, .f32⟩
  | .hbm, ⟨8, _⟩ => ⟨S41x1024x28, .f32⟩
  | .local _ .vmem, ⟨0, _⟩ => ⟨S1x512x3584, .bf16⟩
  | .local _ .vmem, ⟨1, _⟩ => ⟨S1x512x3584, .bf16⟩
  | .local _ .vmem, ⟨2, _⟩ => ⟨S1x512x3584, .bf16⟩
  | .local _ .vmem, ⟨3, _⟩ => ⟨S1x512x3584, .bf16⟩
  | .local _ .vmem, ⟨4, _⟩ => ⟨S1x3584, .f32⟩
  | .local _ .vmem, ⟨5, _⟩ => ⟨S1x512x3584, .bf16⟩
  | .local _ .vmem, ⟨6, _⟩ => ⟨S1x512x3584, .bf16⟩
  | .local _ .vmem, ⟨7, _⟩ => ⟨S1x512x3584, .fp8e4m3⟩
  | .local _ .vmem, ⟨8, _⟩ => ⟨S1x512x3584, .fp8e4m3⟩
  | .local _ .vmem, ⟨9, _⟩ => ⟨S1x28x512, .f32⟩
  | .local _ .vmem, ⟨10, _⟩ => ⟨S1x28x512, .f32⟩
  | .local _ .vmem, ⟨11, _⟩ => ⟨S512x128, .f32⟩
  | _, _ => ⟨S41x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![41, 2], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  v113
def k0_off1 (k0_t1 : Fin k0_t1_loop.trips) : Fin 3 → Nat :=
  let c0_51 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v116 : Index := Scalar.indexCast v114
  let c0_52 : Index := 0#32
  ![0, v116.toNat, 0]
def k0_off2 (k0_t1 : Fin k0_t1_loop.trips) : Fin 3 → Nat :=
  let c0_57 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v133 : Index := Scalar.indexCast v114
  let c128_58 : Index := 128#32
  ![0, v133.toNat, 128]
def k0_off3 (k0_t1 : Fin k0_t1_loop.trips) : Fin 3 → Nat :=
  let c0_63 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v150 : Index := Scalar.indexCast v114
  let c256_64 : Index := 256#32
  ![0, v150.toNat, 256]
def k0_off4 (k0_t1 : Fin k0_t1_loop.trips) : Fin 3 → Nat :=
  let c0_69 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v167 : Index := Scalar.indexCast v114
  let c384_70 : Index := 384#32
  ![0, v167.toNat, 384]
def k0_off5 (k0_t1 : Fin k0_t1_loop.trips) : Fin 3 → Nat :=
  let c0_75 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v184 : Index := Scalar.indexCast v114
  let c512 : Index := 512#32
  ![0, v184.toNat, 512]
def k0_off6 (k0_t1 : Fin k0_t1_loop.trips) : Fin 3 → Nat :=
  let c0_80 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v201 : Index := Scalar.indexCast v114
  let c640 : Index := 640#32
  ![0, v201.toNat, 640]
def k0_off7 (k0_t1 : Fin k0_t1_loop.trips) : Fin 3 → Nat :=
  let c0_85 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v218 : Index := Scalar.indexCast v114
  let c768 : Index := 768#32
  ![0, v218.toNat, 768]
def k0_off8 (k0_t1 : Fin k0_t1_loop.trips) : Fin 3 → Nat :=
  let c0_90 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v235 : Index := Scalar.indexCast v114
  let c896 : Index := 896#32
  ![0, v235.toNat, 896]
def k0_off9 (k0_t1 : Fin k0_t1_loop.trips) : Fin 3 → Nat :=
  let c0_95 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v252 : Index := Scalar.indexCast v114
  let c1024 : Index := 1024#32
  ![0, v252.toNat, 1024]
def k0_off10 (k0_t1 : Fin k0_t1_loop.trips) : Fin 3 → Nat :=
  let c0_100 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v269 : Index := Scalar.indexCast v114
  let c1152 : Index := 1152#32
  ![0, v269.toNat, 1152]
def k0_off11 (k0_t1 : Fin k0_t1_loop.trips) : Fin 3 → Nat :=
  let c0_105 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v286 : Index := Scalar.indexCast v114
  let c1280 : Index := 1280#32
  ![0, v286.toNat, 1280]
def k0_off12 (k0_t1 : Fin k0_t1_loop.trips) : Fin 3 → Nat :=
  let c0_110 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v303 : Index := Scalar.indexCast v114
  let c1408 : Index := 1408#32
  ![0, v303.toNat, 1408]
def k0_off13 (k0_t1 : Fin k0_t1_loop.trips) : Fin 3 → Nat :=
  let c0_115 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v320 : Index := Scalar.indexCast v114
  let c1536 : Index := 1536#32
  ![0, v320.toNat, 1536]
def k0_off14 (k0_t1 : Fin k0_t1_loop.trips) : Fin 3 → Nat :=
  let c0_120 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v337 : Index := Scalar.indexCast v114
  let c1664 : Index := 1664#32
  ![0, v337.toNat, 1664]
def k0_off15 (k0_t1 : Fin k0_t1_loop.trips) : Fin 3 → Nat :=
  let c0_125 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v354 : Index := Scalar.indexCast v114
  let c1792 : Index := 1792#32
  ![0, v354.toNat, 1792]
def k0_off16 (k0_t1 : Fin k0_t1_loop.trips) : Fin 3 → Nat :=
  let c0_130 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v371 : Index := Scalar.indexCast v114
  let c1920 : Index := 1920#32
  ![0, v371.toNat, 1920]
def k0_off17 (k0_t1 : Fin k0_t1_loop.trips) : Fin 3 → Nat :=
  let c0_135 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v388 : Index := Scalar.indexCast v114
  let c2048 : Index := 2048#32
  ![0, v388.toNat, 2048]
def k0_off18 (k0_t1 : Fin k0_t1_loop.trips) : Fin 3 → Nat :=
  let c0_140 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v405 : Index := Scalar.indexCast v114
  let c2176 : Index := 2176#32
  ![0, v405.toNat, 2176]
def k0_off19 (k0_t1 : Fin k0_t1_loop.trips) : Fin 3 → Nat :=
  let c0_145 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v422 : Index := Scalar.indexCast v114
  let c2304 : Index := 2304#32
  ![0, v422.toNat, 2304]
def k0_off20 (k0_t1 : Fin k0_t1_loop.trips) : Fin 3 → Nat :=
  let c0_150 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v439 : Index := Scalar.indexCast v114
  let c2432 : Index := 2432#32
  ![0, v439.toNat, 2432]
def k0_off21 (k0_t1 : Fin k0_t1_loop.trips) : Fin 3 → Nat :=
  let c0_155 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v456 : Index := Scalar.indexCast v114
  let c2560 : Index := 2560#32
  ![0, v456.toNat, 2560]
def k0_off22 (k0_t1 : Fin k0_t1_loop.trips) : Fin 3 → Nat :=
  let c0_160 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v473 : Index := Scalar.indexCast v114
  let c2688 : Index := 2688#32
  ![0, v473.toNat, 2688]
def k0_off23 (k0_t1 : Fin k0_t1_loop.trips) : Fin 3 → Nat :=
  let c0_165 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v490 : Index := Scalar.indexCast v114
  let c2816 : Index := 2816#32
  ![0, v490.toNat, 2816]
def k0_off24 (k0_t1 : Fin k0_t1_loop.trips) : Fin 3 → Nat :=
  let c0_170 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v507 : Index := Scalar.indexCast v114
  let c2944 : Index := 2944#32
  ![0, v507.toNat, 2944]
def k0_off25 (k0_t1 : Fin k0_t1_loop.trips) : Fin 3 → Nat :=
  let c0_175 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v524 : Index := Scalar.indexCast v114
  let c3072 : Index := 3072#32
  ![0, v524.toNat, 3072]
def k0_off26 (k0_t1 : Fin k0_t1_loop.trips) : Fin 3 → Nat :=
  let c0_180 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v541 : Index := Scalar.indexCast v114
  let c3200 : Index := 3200#32
  ![0, v541.toNat, 3200]
def k0_off27 (k0_t1 : Fin k0_t1_loop.trips) : Fin 3 → Nat :=
  let c0_185 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v558 : Index := Scalar.indexCast v114
  let c3328 : Index := 3328#32
  ![0, v558.toNat, 3328]
def k0_off28 (k0_t1 : Fin k0_t1_loop.trips) : Fin 3 → Nat :=
  let c0_190 : Index := 0#32
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v575 : Index := Scalar.indexCast v114
  let c3456 : Index := 3456#32
  ![0, v575.toNat, 3456]
def k0_off29 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v612 : Index := Scalar.indexCast v114
  let c0_203 : Index := 0#32
  ![v612.toNat, 0]
def k0_off30 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v659 : Index := Scalar.indexCast v114
  let c1 : Index := 1#32
  ![v659.toNat, 1]
def k0_off31 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v706 : Index := Scalar.indexCast v114
  let c2 : Index := 2#32
  ![v706.toNat, 2]
def k0_off32 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v753 : Index := Scalar.indexCast v114
  let c3 : Index := 3#32
  ![v753.toNat, 3]
def k0_off33 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v800 : Index := Scalar.indexCast v114
  let c4 : Index := 4#32
  ![v800.toNat, 4]
def k0_off34 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v847 : Index := Scalar.indexCast v114
  let c5 : Index := 5#32
  ![v847.toNat, 5]
def k0_off35 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v894 : Index := Scalar.indexCast v114
  let c6 : Index := 6#32
  ![v894.toNat, 6]
def k0_off36 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v941 : Index := Scalar.indexCast v114
  let c7 : Index := 7#32
  ![v941.toNat, 7]
def k0_off37 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v988 : Index := Scalar.indexCast v114
  let c8 : Index := 8#32
  ![v988.toNat, 8]
def k0_off38 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v1035 : Index := Scalar.indexCast v114
  let c9 : Index := 9#32
  ![v1035.toNat, 9]
def k0_off39 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v1082 : Index := Scalar.indexCast v114
  let c10 : Index := 10#32
  ![v1082.toNat, 10]
def k0_off40 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v1129 : Index := Scalar.indexCast v114
  let c11 : Index := 11#32
  ![v1129.toNat, 11]
def k0_off41 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v1176 : Index := Scalar.indexCast v114
  let c12 : Index := 12#32
  ![v1176.toNat, 12]
def k0_off42 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v1223 : Index := Scalar.indexCast v114
  let c13 : Index := 13#32
  ![v1223.toNat, 13]
def k0_off43 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v1270 : Index := Scalar.indexCast v114
  let c14 : Index := 14#32
  ![v1270.toNat, 14]
def k0_off44 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v1317 : Index := Scalar.indexCast v114
  let c15 : Index := 15#32
  ![v1317.toNat, 15]
def k0_off45 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v1364 : Index := Scalar.indexCast v114
  let c16 : Index := 16#32
  ![v1364.toNat, 16]
def k0_off46 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v1411 : Index := Scalar.indexCast v114
  let c17 : Index := 17#32
  ![v1411.toNat, 17]
def k0_off47 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v1458 : Index := Scalar.indexCast v114
  let c18 : Index := 18#32
  ![v1458.toNat, 18]
def k0_off48 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v1505 : Index := Scalar.indexCast v114
  let c19 : Index := 19#32
  ![v1505.toNat, 19]
def k0_off49 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v1552 : Index := Scalar.indexCast v114
  let c20 : Index := 20#32
  ![v1552.toNat, 20]
def k0_off50 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v1599 : Index := Scalar.indexCast v114
  let c21 : Index := 21#32
  ![v1599.toNat, 21]
def k0_off51 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v1646 : Index := Scalar.indexCast v114
  let c22 : Index := 22#32
  ![v1646.toNat, 22]
def k0_off52 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v1693 : Index := Scalar.indexCast v114
  let c23 : Index := 23#32
  ![v1693.toNat, 23]
def k0_off53 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v1740 : Index := Scalar.indexCast v114
  let c24 : Index := 24#32
  ![v1740.toNat, 24]
def k0_off54 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v1787 : Index := Scalar.indexCast v114
  let c25 : Index := 25#32
  ![v1787.toNat, 25]
def k0_off55 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v1834 : Index := Scalar.indexCast v114
  let c26 : Index := 26#32
  ![v1834.toNat, 26]
def k0_off56 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v113 : BitVec 32 := Scalar.muli arg9 c32_i32
  let v114 : BitVec 32 := v113
  let v1881 : Index := Scalar.indexCast v114
  let c27 : Index := 27#32
  ![v1881.toNat, 27]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x3584 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x28x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S41x1024x3584 : Shape := ⟨3, ![41, 1024, 3584]⟩
abbrev S3584 : Shape := ⟨1, ![3584]⟩
abbrev S41x1024x28x128 : Shape := ⟨4, ![41, 1024, 28, 128]⟩
abbrev S_ : Shape := ⟨0, ![]⟩
abbrev S41x1024 : Shape := ⟨2, ![41, 1024]⟩
abbrev S41x1024x1x1 : Shape := ⟨4, ![41, 1024, 1, 1]⟩
abbrev S1x1x28x128 : Shape := ⟨4, ![1, 1, 28, 128]⟩
abbrev S41x1024x28 : Shape := ⟨3, ![41, 1024, 28]⟩
abbrev S41x1024x28x1 : Shape := ⟨4, ![41, 1024, 28, 1]⟩

abbrev nBuf : Space → Nat
  | .hbm => 68
  | .vmem => 0
  | .smem => 0
  | _ => 0

abbrev bufTy : (tb : Table) → Fin (tcTables nBuf tb) → BufTy
  | .hbm, ⟨0, _⟩ => ⟨S41x1024x3584, .bf16⟩
  | .hbm, ⟨1, _⟩ => ⟨S41x1024x3584, .bf16⟩
  | .hbm, ⟨2, _⟩ => ⟨S3584, .bf16⟩
  | .hbm, ⟨3, _⟩ => ⟨S41x1024x3584, .f32⟩
  | .hbm, ⟨4, _⟩ => ⟨S41x1024x3584, .f32⟩
  | .hbm, ⟨5, _⟩ => ⟨S41x1024x3584, .f32⟩
  | .hbm, ⟨6, _⟩ => ⟨S41x1024x3584, .bf16⟩
  | .hbm, ⟨7, _⟩ => ⟨S41x1024x28x128, .bf16⟩
  | .hbm, ⟨8, _⟩ => ⟨S41x1024x28x128, .f32⟩
  | .hbm, ⟨9, _⟩ => ⟨S41x1024x28x128, .f32⟩
  | .hbm, ⟨10, _⟩ => ⟨S_, .f32⟩
  | .hbm, ⟨11, _⟩ => ⟨S41x1024, .f32⟩
  | .hbm, ⟨12, _⟩ => ⟨S41x1024x1x1, .f32⟩
  | .hbm, ⟨13, _⟩ => ⟨S_, .f32⟩
  | .hbm, ⟨14, _⟩ => ⟨S41x1024x1x1, .f32⟩
  | .hbm, ⟨15, _⟩ => ⟨S41x1024x1x1, .f32⟩
  | .hbm, ⟨16, _⟩ => ⟨S3584, .f32⟩
  | .hbm, ⟨17, _⟩ => ⟨S1x1x28x128, .f32⟩
  | .hbm, ⟨18, _⟩ => ⟨S_, .f32⟩
  | .hbm, ⟨19, _⟩ => ⟨S41x1024x1x1, .f32⟩
  | .hbm, ⟨20, _⟩ => ⟨S41x1024x1x1, .f32⟩
  | .hbm, ⟨21, _⟩ => ⟨S41x1024x1x1, .f32⟩
  | .hbm, ⟨22, _⟩ => ⟨S41x1024x28x128, .f32⟩
  | .hbm, ⟨23, _⟩ => ⟨S41x1024x28x128, .f32⟩
  | .hbm, ⟨24, _⟩ => ⟨S41x1024x28x128, .f32⟩
  | .hbm, ⟨25, _⟩ => ⟨S41x1024x28x128, .f32⟩
  | .hbm, ⟨26, _⟩ => ⟨S41x1024x28x128, .f32⟩
  | .hbm, ⟨27, _⟩ => ⟨S_, .f32⟩
  | .hbm, ⟨28, _⟩ => ⟨S41x1024x28, .f32⟩
  | .hbm, ⟨29, _⟩ => ⟨S_, .f32⟩
  | .hbm, ⟨30, _⟩ => ⟨S41x1024x28, .f32⟩
  | .hbm, ⟨31, _⟩ => ⟨S41x1024x28, .f32⟩
  | .hbm, ⟨32, _⟩ => ⟨S41x1024x28, .f32⟩
  | .hbm, ⟨33, _⟩ => ⟨S_, .f32⟩
  | .hbm, ⟨34, _⟩ => ⟨S_, .f32⟩
  | .hbm, ⟨35, _⟩ => ⟨S41x1024x28, .f32⟩
  | .hbm, ⟨36, _⟩ => ⟨S41x1024x28, .f32⟩
  | .hbm, ⟨37, _⟩ => ⟨S41x1024x28, .f32⟩
  | .hbm, ⟨38, _⟩ => ⟨S_, .f32⟩
  | .hbm, ⟨39, _⟩ => ⟨S41x1024x28, .f32⟩
  | .hbm, ⟨40, _⟩ => ⟨S41x1024x28, .f32⟩
  | .hbm, ⟨41, _⟩ => ⟨S_, .f32⟩
  | .hbm, ⟨42, _⟩ => ⟨S41x1024x28, .f32⟩
  | .hbm, ⟨43, _⟩ => ⟨S41x1024x28, .i1⟩
  | .hbm, ⟨44, _⟩ => ⟨S_, .f32⟩
  | .hbm, ⟨45, _⟩ => ⟨S_, .f32⟩
  | .hbm, ⟨46, _⟩ => ⟨S41x1024x28, .f32⟩
  | .hbm, ⟨47, _⟩ => ⟨S41x1024x28, .f32⟩
  | .hbm, ⟨48, _⟩ => ⟨S_, .f32⟩
  | .hbm, ⟨49, _⟩ => ⟨S41x1024x28, .f32⟩
  | .hbm, ⟨50, _⟩ => ⟨S41x1024x28, .f32⟩
  | .hbm, ⟨51, _⟩ => ⟨S41x1024x28, .f32⟩
  | .hbm, ⟨52, _⟩ => ⟨S_, .f32⟩
  | .hbm, ⟨53, _⟩ => ⟨S41x1024x28, .f32⟩
  | .hbm, ⟨54, _⟩ => ⟨S41x1024x28, .f32⟩
  | .hbm, ⟨55, _⟩ => ⟨S41x1024x28x1, .f32⟩
  | .hbm, ⟨56, _⟩ => ⟨S41x1024x28x128, .f32⟩
  | .hbm, ⟨57, _⟩ => ⟨S41x1024x28x128, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S41x1024x28x128, .f32⟩
  | .hbm, ⟨62, _⟩ => ⟨S41x1024x28x128, .f32⟩
  | .hbm, ⟨63, _⟩ => ⟨S_, .f32⟩
  | .hbm, ⟨64, _⟩ => ⟨S41x1024x28x128, .f32⟩
  | .hbm, ⟨65, _⟩ => ⟨S41x1024x28x128, .f32⟩
  | .hbm, ⟨66, _⟩ => ⟨S41x1024x28x128, .fp8e4m3⟩
  | .hbm, ⟨67, _⟩ => ⟨S41x1024x3584, .fp8e4m3⟩
  | _, _ => ⟨S41x1024x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_call0_v0 : Ref sig .tc := ⟨.hbm, 45, rfl⟩
abbrev main_call0_v1 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_cst_11 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]
-- ==== Proof.FrameP.lean ====
/- The frame of the printed kernel: its arguments end unchanged and every semaphore counter at zero, at any float
   instance. Nothing is said here of what the kernel writes (its three outputs end at some contents). -/
module

public import proofs.«01_k».proof.Proof.Gen.Kernel.Frame
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import Idealize.ShloMosaic.Lib.Claim

@[expose] public section

-- membership in a rectangle of production extents (`View.cover_of_tiled`): the elaborator's structural look
-- recurses once per coordinate of the long axes
set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The buffers the lines after the region WRITE, as references: results computed from contents the run does not name
    (an operand the body wrote by its own DMA, or a forgotten output), so nothing is stated of them either. -/
def T0 : Finset (Ref sig .tc) := {main_v3}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c)),
      ((h c).2 main_arg2 (Finset.mem_sdiff.mpr ⟨Pipeline.mem_restRefs_of main_arg2 (by decide) (by decide), by decide⟩)).trans (V_main_arg2 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x512x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3584 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x3584 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x3584 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x28x512 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S512x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: checking it walks past the default budget)
set_option maxHeartbeats 1000000 in
/-- The body's triple: on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x512x3584 .bf16) (harg2 : arg2.IsWhole) (arg3 : Memref sig .tc .vmem S1x512x3584 .bf16) (harg3 : arg3.IsWhole) (arg4 : Memref sig .tc .vmem S1x3584 .f32) (harg4 : arg4.IsWhole) (arg5 : Memref sig .tc .vmem S1x512x3584 .bf16) (harg5 : arg5.IsWhole) (arg6 : Memref sig .tc .vmem S1x512x3584 .fp8e4m3) (harg6 : arg6.IsWhole) (arg7 : Memref sig .tc .vmem S1x28x512 .f32) (harg7 : arg7.IsWhole) (arg8 : Memref sig .tc .vmem S512x128 .f32) (harg8 : arg8.IsWhole)
    (x0 : Vec F S1x512x3584 .bf16) (x1 : Vec F S1x512x3584 .bf16) (x2 : Vec F S1x3584 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_add_rmsnorm_fp8 i arg2 harg2 arg3 harg3 arg4 harg4 arg5 harg5 arg6 harg6 arg7 harg7 arg8 harg8) K := by
    intro E K
    simp only [cc0_add_rmsnorm_fp8_eq_skeleton]; unfold cc0_add_rmsnorm_fp8_skel
    simp only [k0_part43_eq_skeleton, k0_part44_eq_skeleton, k0_part45_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  iintro ⟨H0, H1, H2, H3, H4, H5, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Own

end
-- ==== Proof.Spec.lean ====
/- The mathematics both programs compute, on extended reals, one token row at a time: the root mean
   square normalisation of a row of 28 blocks of 128, the block's largest magnitude, and the
   power-of-two scale of the block. The kernel finds the power of two in the bits of a float
   (`invK`, `sclK`), the reference as a power (`invR`, `sclR`); `sclK_eq` and `code_eq` are the
   equality of the two on the range of the mask. -/
module

public import Idealize.ShloMosaic.Lib.IdealHost
public import Idealize.ShloMosaic.PureOps.IdealRules

@[expose] public section

set_option maxRecDepth 16384

noncomputable section

namespace Cert.Spec

open Idealize.ShloMosaic

/-- The mean of the squares of a row. -/
def ms (h : Fin 28 → Fin 128 → EReal) : EReal :=
  Ideal.div (∑ j, ∑ l, h j l * h j l) (Ideal.ofBits .f32 0x45600000#32)

/-- The reciprocal root mean square of a row. -/
def rs (h : Fin 28 → Fin 128 → EReal) : EReal :=
  Ideal.rsqrt (ms h + Ideal.ofBits .f32 0x358637BD#32)

/-- The normalised row, times the weights. -/
def y (h g : Fin 28 → Fin 128 → EReal) (j : Fin 28) (l : Fin 128) : EReal := h j l * rs h * g j l

/-- The largest magnitude of 128 values. -/
def amaxOf (v : Fin 128 → EReal) : EReal :=
  (Finset.univ : Finset (Fin 128)).fold max (Ideal.ofBits .f32 0xFF800000#32) fun l => max (v l) (-(v l))

/-- The largest magnitude over 448. -/
def tOf (a : EReal) : EReal := a * Ideal.ofBits .f32 0x3B124925#32

/-- The floor of the base-2 logarithm. -/
def nOf (t : EReal) : EReal := Ideal.liftRound Int.floor (Ideal.div (Ideal.log t) ((Real.log 2 : ℝ) : EReal))

/-- The kernel's exponent field of a positive float. -/
def field (t : EReal) : BitVec 32 :=
  IntOp.shli .vector (Ideal.fptosi 32 (min (Ideal.ofBits .f32 0x437F0000#32)
    (max (Ideal.ofBits .f32 0x00000000#32) (nOf t + Ideal.ofBits .f32 0x42FE0000#32)))) 23#32

/-- The kernel's inverse scale, by the word it subtracts from. -/
def invKc (c : BitVec 32) (a : EReal) : EReal := Ideal.ofBits .f32 (c - field (tOf a))
def invK (a : EReal) : EReal := invKc 2122317824#32 a

/-- The kernel's scale, by the word it adds. -/
def sclKc (c : BitVec 32) (a : EReal) : EReal :=
  if field (tOf a) = 0#32 then Ideal.ofBits .f32 0x3F800000#32 else Ideal.ofBits .f32 (field (tOf a) + c)
def sclK (a : EReal) : EReal := sclKc 8388608#32 a

/-- The reference's exponent. -/
def eR (a : EReal) : EReal :=
  if a = 0 then 0 else nOf (tOf a) + 1

/-- The reference's scale and inverse scale. -/
def sclR (a : EReal) : EReal := Ideal.exp2 (eR a)
def invR (a : EReal) : EReal := Ideal.exp2 (-eR a)

/-- Clipping to the range of the 8-bit float. -/
def clip (v : EReal) : EReal :=
  min (Ideal.ofBits .f32 0x43E00000#32) (max (Ideal.ofBits .f32 0xC3E00000#32) v)

/-- The range of the mask of the codes, between `2 ^ -127` and `2 ^ 126`. -/
def InC (a : EReal) : Prop :=
  a = 0 ∨ (Ideal.ofBits .f32 0x00400000#32 ≤ tOf a ∧ tOf a < Ideal.ofBits .f32 0x7E800000#32)

/-- The range of the mask of the scales, between `2 ^ -126` and `2 ^ 127`. -/
def InS (a : EReal) : Prop :=
  a = 0 ∨ (Ideal.ofBits .f32 0x00800000#32 ≤ tOf a ∧ tOf a < Ideal.ofBits .f32 0x7F000000#32)

/-! ## Constants -/

/-- A float pattern with a zero fraction is a power of two. -/
theorem ofBits_pow (b : BitVec 32) (E : ℕ) (h0 : b.extractLsb' 31 1 = 0#1)
    (h1 : (b.extractLsb' 23 8).toNat = E) (h2 : (b.extractLsb' 0 23).toNat = 0) (hE : 1 ≤ E) (hE' : E ≤ 254) :
    Ideal.ofBits .f32 b = (((2 : ℝ) ^ ((E : ℤ) - 127) : ℝ) : EReal) := by
  have : Ideal.ofBits .f32 b = Ideal.ieee 8 23 b := rfl
  rw [this]; unfold Ideal.ieee
  simp only [h1, h2]
  have e1 : (b.extractLsb' (8 + 23) 1 == 1#1) = false := by
    have : b.extractLsb' (8 + 23) 1 = 0#1 := h0
    rw [this]; decide
  rw [e1, if_neg (by omega), if_neg (by omega)]
  congr 1
  have : ((2 : ℝ) ^ (23 : ℤ)) * 2 ^ ((E : ℤ) - (2 ^ (8 - 1) - 1) - (23 : ℕ)) = 2 ^ ((E : ℤ) - 127) := by
    rw [← zpow_add₀ (by norm_num)]; congr 1; push_cast; ring
  rw [← this]; push_cast; norm_num

theorem c_zero : Ideal.ofBits .f32 0x00000000#32 = 0 := by simp [Ideal.ofBits, Ideal.ieee]
theorem c_one : Ideal.ofBits .f32 0x3F800000#32 = 1 := by simp [Ideal.ofBits, Ideal.ieee]; rw [← EReal.coe_mul]; norm_num
theorem c_127 : Ideal.ofBits .f32 0x42FE0000#32 = ((127 : ℝ) : EReal) := by
  simp [Ideal.ofBits, Ideal.ieee]; rw [← EReal.coe_mul]; norm_num
theorem c_255 : Ideal.ofBits .f32 0x437F0000#32 = ((255 : ℝ) : EReal) := by
  simp [Ideal.ofBits, Ideal.ieee]; rw [← EReal.coe_mul]; norm_num
theorem c_lo : Ideal.ofBits .f32 0x00800000#32 = (((2 : ℝ) ^ (-126 : ℤ) : ℝ) : EReal) :=
  ofBits_pow _ 1 (by decide) (by decide) (by decide) (by decide) (by decide)
theorem c_hi : Ideal.ofBits .f32 0x7E800000#32 = (((2 : ℝ) ^ (126 : ℤ) : ℝ) : EReal) :=
  ofBits_pow _ 253 (by decide) (by decide) (by decide) (by decide) (by decide)
theorem c_hi2 : Ideal.ofBits .f32 0x7F000000#32 = (((2 : ℝ) ^ (127 : ℤ) : ℝ) : EReal) :=
  ofBits_pow _ 254 (by decide) (by decide) (by decide) (by decide) (by decide)
theorem c_lo2 : Ideal.ofBits .f32 0x00400000#32 = (((2 : ℝ) ^ (-127 : ℤ) : ℝ) : EReal) := by
  simp [Ideal.ofBits, Ideal.ieee]; rw [← EReal.coe_mul]; norm_num
theorem c_two : Ideal.ofBits .f32 0x40000000#32 = ((2 : ℝ) : EReal) :=
  (ofBits_pow _ 128 (by decide) (by decide) (by decide) (by decide) (by decide)).trans (by norm_num)
theorem c_bot : Ideal.ofBits .f32 0xFF800000#32 = ⊥ := by simp [Ideal.ofBits, Ideal.ieee]

/-! ## The logarithm and the exponent field -/

/-- The floor of the logarithm of a real between two powers of two is an integer between their exponents. -/
theorem nOf_range {t : EReal} {p q : ℤ} (h1 : (((2 : ℝ) ^ p : ℝ) : EReal) ≤ t) (h2 : t < (((2 : ℝ) ^ q : ℝ) : EReal)) :
    ∃ n : ℤ, p ≤ n ∧ n < q ∧ nOf t = ((n : ℝ) : EReal) := by
  induction t using EReal.rec with
  | bot => exact absurd h1 (by simp)
  | top => exact absurd h2 (by simp)
  | coe r =>
    have h1 : (2 : ℝ) ^ p ≤ r := EReal.coe_le_coe_iff.mp h1
    have h2 : r < (2 : ℝ) ^ q := EReal.coe_lt_coe_iff.mp h2
    have hr : 0 < r := lt_of_lt_of_le (by positivity) h1
    have hl : 0 < Real.log 2 := Real.log_pos (by norm_num)
    refine ⟨⌊Real.log r / Real.log 2⌋, ?_, ?_, ?_⟩
    · rw [Int.le_floor, le_div_iff₀ hl]
      have := Real.log_le_log (by positivity) h1
      rw [Real.log_zpow] at this; exact_mod_cast this
    · rw [Int.floor_lt, div_lt_iff₀ hl]
      have := Real.log_lt_log hr h2
      rw [Real.log_zpow] at this; exact_mod_cast this
    · have e : Ideal.log (r : EReal) = (Real.log r : EReal) := by
        show (if r ≤ 0 then ⊥ else (Real.log r : EReal)) = _
        rw [if_neg (not_le.mpr hr)]
      unfold nOf
      rw [e]; unfold Ideal.div
      rw [if_neg (by simpa using hl.ne'), ← EReal.coe_inv, ← EReal.coe_mul, ← div_eq_mul_inv]
      rfl

theorem fptosi_int (n : ℤ) (h0 : 0 ≤ n) (h1 : n ≤ 255) : Ideal.fptosi 32 ((n : ℝ) : EReal) = BitVec.ofInt 32 n := by
  unfold Ideal.fptosi
  congr 1
  show max _ (min _ (if 0 ≤ (n : ℝ) then ⌊(n : ℝ)⌋ else ⌈(n : ℝ)⌉)) = n
  rw [if_pos (by exact_mod_cast h0), Int.floor_intCast]
  norm_num
  omega

/-- The exponent field of a value whose logarithm floors to `n`. -/
theorem field_eq {t : EReal} {n : ℤ} (h1 : -127 ≤ n) (h2 : n < 127) (h : nOf t = ((n : ℝ) : EReal))
    {E : ℕ} (hE : (E : ℤ) = n + 127) : field t = BitVec.ofNat 32 E <<< 23 := by
  unfold field
  rw [h, c_127, c_255, c_zero, ← EReal.coe_add]
  have : (n : ℝ) + 127 = ((n + 127 : ℤ) : ℝ) := by push_cast; rfl
  rw [this, max_eq_right (by exact_mod_cast (by omega : (0 : ℤ) ≤ n + 127)),
    min_eq_right (by rw [EReal.coe_le_coe_iff]; exact_mod_cast (by omega : n + 127 ≤ 255)),
    fptosi_int _ (by omega) (by omega)]
  have e : BitVec.ofInt 32 (n + 127) = BitVec.ofNat 32 E := by
    rw [← hE, BitVec.ofInt_natCast]
  rw [e]; rfl

/-- The biased exponent as a word. -/
theorem exists_word {n : ℤ} (h1 : -127 ≤ n) (h2 : n < 127) : ∃ E : Fin 254, (E.val : ℤ) = n + 127 :=
  ⟨⟨(n + 127).toNat, by omega⟩, by show (((n + 127).toNat : ℕ) : ℤ) = _; omega⟩

/-- The fields of the word of the inverse scale, for every biased exponent of the mask of the codes. -/
theorem inv_bits : ∀ E : Fin 254, E.val ≤ 252 →
    (2122317824#32 - BitVec.ofNat 32 E.val <<< 23).extractLsb' 31 1 = 0#1 ∧
    ((2122317824#32 - BitVec.ofNat 32 E.val <<< 23).extractLsb' 23 8).toNat = 253 - E.val ∧
    ((2122317824#32 - BitVec.ofNat 32 E.val <<< 23).extractLsb' 0 23).toNat = 0 := by decide +kernel

/-- The fields of the word of the scale, for every biased exponent of the mask of the scales. -/
theorem scl_bits : ∀ E : Fin 254, 1 ≤ E.val →
    (BitVec.ofNat 32 E.val <<< 23 + 8388608#32).extractLsb' 31 1 = 0#1 ∧
    ((BitVec.ofNat 32 E.val <<< 23 + 8388608#32).extractLsb' 23 8).toNat = E.val + 1 ∧
    ((BitVec.ofNat 32 E.val <<< 23 + 8388608#32).extractLsb' 0 23).toNat = 0 ∧
    BitVec.ofNat 32 E.val <<< 23 ≠ 0#32 := by decide +kernel

theorem exp2_int (k : ℤ) : Ideal.exp2 ((k : ℝ) : EReal) = (((2 : ℝ) ^ k : ℝ) : EReal) := by
  show ((Real.rpow 2 k : ℝ) : EReal) = _
  congr 1; exact Real.rpow_intCast 2 k

/-- A power of the constant two. -/
theorem pow_two (x : EReal) : Ideal.pow (Ideal.ofBits .f32 0x40000000#32) x = Ideal.exp2 x := by
  rw [c_two]
  induction x using EReal.rec with
  | bot => rw [Ideal.pow_coe_bot, if_neg (by norm_num), if_pos (by norm_num)]; rfl
  | top => rw [Ideal.pow_coe_top, if_neg (by norm_num), if_pos (by norm_num)]; rfl
  | coe r => rfl

/-- The logarithm of the constant two. -/
theorem log_two : Ideal.log (Ideal.ofBits .f32 0x40000000#32) = ((Real.log 2 : ℝ) : EReal) := by
  rw [c_two]
  show (if (2 : ℝ) ≤ 0 then ⊥ else (Real.log 2 : EReal)) = _
  rw [if_neg (by norm_num)]

/-- Zero magnitude: the exponent field is zero. -/
theorem field_zero : field (tOf 0) = 0#32 := by
  have : nOf (tOf 0) = ⊥ := by
    unfold tOf nOf
    rw [zero_mul]
    have e : Ideal.log (0 : EReal) = ⊥ := by
      show (if (0 : ℝ) ≤ 0 then ⊥ else _) = _
      rw [if_pos le_rfl]
    have hl : 0 < Real.log 2 := Real.log_pos (by norm_num)
    rw [e]; unfold Ideal.div
    rw [if_neg (by simpa using hl.ne'), ← EReal.coe_inv, EReal.bot_mul_coe_of_pos (inv_pos.mpr hl)]
    rfl
  unfold field
  rw [this, EReal.bot_add, c_zero, c_255, max_eq_left bot_le, min_eq_right (by exact_mod_cast (by norm_num : (0:ℝ) ≤ 255))]
  have := fptosi_int 0 le_rfl (by norm_num)
  rw [Int.cast_zero, EReal.coe_zero] at this
  rw [this]; decide

/-- A magnitude in range is not zero. -/
theorem ne_zero_of_range {a : EReal} {p : ℤ} (h : (((2 : ℝ) ^ p : ℝ) : EReal) ≤ tOf a) : a ≠ 0 := by
  rintro rfl
  unfold tOf at h
  rw [zero_mul] at h
  have : (2 : ℝ) ^ p ≤ 0 := by exact_mod_cast h
  exact absurd this (not_le.mpr (by positivity))

/-- The two scales agree on their range. -/
theorem sclK_eq {a : EReal} (h : InS a) : sclK a = sclR a := by
  rcases h with rfl | ⟨h1, h2⟩
  · unfold sclK sclKc sclR eR
    rw [field_zero, if_pos rfl, if_pos rfl, c_one]
    have := exp2_int 0
    simp at this; exact this.symm
  · rw [c_lo] at h1; rw [c_hi2] at h2
    have ha := ne_zero_of_range h1
    obtain ⟨n, hn1, hn2, hn⟩ := nOf_range h1 h2
    unfold sclK sclKc sclR eR
    obtain ⟨E, hE⟩ := exists_word (by omega) hn2
    have hE2 := E.isLt
    rw [if_neg ha, hn, field_eq (by omega) hn2 hn hE]
    obtain ⟨b4, b5, b6, b7⟩ := scl_bits E (by omega)
    rw [if_neg b7, ofBits_pow _ _ b4 b5 b6 (by omega) (by omega)]
    have e : ((n : ℝ) : EReal) + 1 = (((n + 1 : ℤ) : ℝ) : EReal) := by push_cast; rfl
    rw [e, exp2_int]
    have e2 : ((E.val + 1 : ℕ) : ℤ) - 127 = n + 1 := by omega
    rw [e2]

/-- The two inverse scales agree on the range of the codes, away from zero. -/
theorem invK_eq {a : EReal} (h1 : Ideal.ofBits .f32 0x00400000#32 ≤ tOf a) (h2 : tOf a < Ideal.ofBits .f32 0x7E800000#32) :
    invK a = invR a := by
  rw [c_lo2] at h1; rw [c_hi] at h2
  have ha := ne_zero_of_range h1
  obtain ⟨n, hn1, hn2, hn⟩ := nOf_range h1 h2
  unfold invK invKc invR eR
  obtain ⟨E, hE⟩ := exists_word hn1 (by omega)
  have hE2 := E.isLt
  rw [if_neg ha, hn, field_eq hn1 (by omega) hn hE]
  obtain ⟨b1, b2, b3⟩ := inv_bits E (by omega)
  rw [ofBits_pow _ _ b1 b2 b3 (by omega) (by omega)]
  have e : -(((n : ℝ) : EReal) + 1) = (((-(n + 1) : ℤ) : ℝ) : EReal) := by
    rw [show ((n : ℝ) : EReal) + 1 = (((n : ℝ) + 1 : ℝ) : EReal) from rfl, ← EReal.coe_neg]
    push_cast; rfl
  rw [e, exp2_int]
  have e2 : ((253 - E.val : ℕ) : ℤ) - 127 = -(n + 1) := by omega
  rw [e2]

theorem le_amaxOf (v : Fin 128 → EReal) (l : Fin 128) : max (v l) (-(v l)) ≤ amaxOf v := by
  unfold amaxOf
  exact (Finset.le_fold_max _).mpr (Or.inr ⟨l, Finset.mem_univ _, le_rfl⟩)

/-- A block of zero magnitude is zero. -/
theorem eq_zero_of_amaxOf {v : Fin 128 → EReal} (h : amaxOf v = 0) (l : Fin 128) : v l = 0 := by
  have := le_amaxOf v l
  rw [h, max_le_iff] at this
  refine le_antisymm this.1 ?_
  have h2 := EReal.neg_le_neg_iff.mpr this.2
  simpa using h2

/-- The two codes agree on their range. -/
theorem code_eq {v : Fin 128 → EReal} (h : InC (amaxOf v)) (l : Fin 128) :
    clip (v l * invK (amaxOf v)) = clip (v l * invR (amaxOf v)) := by
  rcases h with h | ⟨h1, h2⟩
  · rw [eq_zero_of_amaxOf h l, zero_mul, zero_mul]
  · rw [invK_eq h1 h2]

end Cert.Spec

end
-- ==== Proof.Pay.lean ====
/- The pure values of one trip of the kernel's loop, in one uniform spelling (every block's values are
   these, at the block's own loads), and each of them at an index as the mathematics of `Spec`. -/
module

public import proofs.«01_k».proof.Proof.Gen.KernelIdeal.Skeleton
public import proofs.«01_k».proof.Proof.Spec
public import Idealize.ShloMosaic.Lib.Pipeline.Value
public import Idealize.ShloMosaic.Lib.Pointwise

@[expose] public section

set_option maxRecDepth 16384

noncomputable section

namespace Cert.KernelIdeal.Own

open Idealize.ShloMosaic Idealize.ShloMosaic.TcCoe Idealize.ShloMosaic.Tactic
open Cert.KernelIdeal Cert.KernelIdeal.Gen Cert

section Any
variable {F : FTy → Type} [FloatOps F] [Named F]

/-- The block of `h` from the two loads. -/
def hBlk (x r : Vec F S1x32x128 .bf16) : FVec F S32x128 .bf16 :=
  truncf .bf16 (addf (extf .f32 (shapeCast S32x128 x shapeCasts_S1x32x128_S32x128) bitsLt_bf16_f32)
    (extf .f32 (shapeCast S32x128 r shapeCasts_S1x32x128_S32x128) bitsLt_bf16_f32)) bitsLt_bf16_f32

/-- The block of `h` as it is stored. -/
def hPay (x r : Vec F S1x32x128 .bf16) : FVec F S1x32x128 .bf16 :=
  shapeCast S1x32x128 (hBlk x r) shapeCasts_S32x128_S1x32x128

/-- The squares of a block of `h`. -/
def sq (h : FVec F S32x128 .bf16) : FVec F S32x128 .f32 :=
  mulf (extf .f32 h bitsLt_bf16_f32) (extf .f32 h bitsLt_bf16_f32)

/-- The reciprocal root mean square from the per-lane sums of squares. -/
def rsB (ss : FVec F S32x128 .f32) : FVec F S32x1 .f32 :=
  rsqrt (addf (divf (shapeCast S32x1 (multiReduction .add [1] S32 ss 0x00000000#32 reduces_S32x128_S32 (.inl rfl) rfl)
      shapeCasts_S32_S32x1) (broadcast S32x1 (Scalar.ofBits .f32 0x45600000#32)))
    (broadcast S32x1 (Scalar.ofBits .f32 0x358637BD#32)))

/-- The normalised block. -/
def yB (rs : FVec F S32x1 .f32) (hb : Vec F S1x32x128 .bf16) (gb : Vec F S1x128 .f32) : FVec F S32x128 .f32 :=
  mulf (mulf (extf .f32 (shapeCast S32x128 hb shapeCasts_S1x32x128_S32x128) bitsLt_bf16_f32)
      (broadcastTo S32x128 rs broadcasts_S32x1_S32x128))
    (broadcastTo S32x128 (shapeCast S1x128 gb shapeCasts_S1x128_S1x128) broadcasts_S1x128_S32x128)

/-- The largest magnitudes of a normalised block. -/
def amaxB (yv : FVec F S32x128 .f32) : FVec F S32x1 .f32 :=
  shapeCast S32x1 (multiReduction .maximumf [1] S32 (absf yv) 0xFF800000#32 reduces_S32x128_S32 (.inl rfl) rfl)
    shapeCasts_S32_S32x1

/-- The same as it is stored. -/
def amaxPay (rs : FVec F S32x1 .f32) (hb : Vec F S1x32x128 .bf16) (gb : Vec F S1x128 .f32) : FVec F S32x1 .f32 :=
  shapeCast S32x1 (amaxB (yB rs hb gb)) shapeCasts_S32x1_S32x1

/-- The exponent field, at any shape, of a value already divided by 448. -/
def fieldV (s : Shape) (t : FVec F s .f32) : IVec s 32 :=
  shli (fptosi 32 (minimumf (broadcast s (Scalar.ofBits .f32 0x437F0000#32))
    (maximumf (broadcast s (Scalar.ofBits .f32 0x00000000#32))
      (addf (floor (divf (log t) (broadcast s (Named.named κ "ln2" 0x3F317218#32))))
        (broadcast s (Scalar.ofBits .f32 0x42FE0000#32)))))) (broadcast s 23#32)

/-- The codes of a normalised block, by the word the exponent field is subtracted from. -/
def codesB (c : BitVec 32) (yv : FVec F S32x128 .f32) : FVec F S32x128 .fp8e4m3 :=
  truncf .fp8e4m3 (minimumf (broadcast S32x128 (Scalar.ofBits .f32 0x43E00000#32))
    (maximumf (broadcast S32x128 (Scalar.ofBits .f32 0xC3E00000#32))
      (mulf yv (bitcastToFloat .f32 (subi (broadcast S32x128 c)
        (fieldV S32x128 (broadcastTo S32x128 (shapeCast S32x1 (mulf (amaxB yv)
          (broadcast S32x1 (Scalar.ofBits .f32 0x3B124925#32))) shapeCasts_S32x1_S32x1) broadcasts_S32x1_S32x128))))))) bitsLt_fp8e4m3_f32

/-- The same as they are stored. -/
def codesPay (rs : FVec F S32x1 .f32) (hb : Vec F S1x32x128 .bf16) (gb : Vec F S1x128 .f32) : FVec F S1x32x128 .fp8e4m3 :=
  shapeCast S1x32x128 (codesB 2122317824#32 (yB rs hb gb)) shapeCasts_S32x128_S1x32x128

/-- The scales of a 128 by 128 tile of magnitudes, as they are stored, by the word added to the exponent field. -/
def sclPay (c : BitVec 32) (a : Vec F S128x128 .f32) : FVec F S1x28x128 .f32 :=
  shapeCast S1x28x128 (extractStridedSlice S28x128 ![0, 0] (transpose S128x128 [1, 0]
    (select (cmpi .eq (fieldV S128x128 (mulf a (broadcast S128x128 (Scalar.ofBits .f32 0x3B124925#32)))) (broadcast S128x128 0#32))
      (broadcast S128x128 (Scalar.ofBits .f32 0x3F800000#32))
      (bitcastToFloat .f32 (addi (fieldV S128x128 (mulf a (broadcast S128x128 (Scalar.ofBits .f32 0x3B124925#32)))) (broadcast S128x128 c))))
    transposes_S128x128_p1_0_S128x128) slices_S128x128_o0_0_S28x128) shapeCasts_S28x128_S1x28x128

/-! The payloads of the printed kernel are these. -/
theorem pay1_eq (x r : Vec F S1x32x128 .bf16) : k0_pay2 x r = hPay x r := rfl
theorem pay85_eq (rs : FVec F S32x1 .f32) (hb : Vec F S1x32x128 .bf16) (gb : Vec F S1x128 .f32) :
    k0_pay85 (k0_pay81 rs hb gb) (k0_pay82 rs hb gb) k0_pay84 = codesPay rs hb gb := rfl
theorem pay83_eq (rs : FVec F S32x1 .f32) (hb : Vec F S1x32x128 .bf16) (gb : Vec F S1x128 .f32) :
    k0_pay83 rs hb gb = amaxPay rs hb gb := rfl
theorem pay212_eq (a : Vec F S128x128 .f32) : k0_pay212 a = sclPay 8388608#32 a := rfl
theorem pay215_eq (a : Vec F S128x128 .f32) : k0_pay215 (k0_pay213 a) k0_pay214 = sclPay 8388608#32 a := rfl

end Any

/-! ## At an index -/

theorem hBlk_apply (x r : Vec Ideal S1x32x128 .bf16) (i : Fin 32) (l : Fin 128) :
    hBlk (F := Ideal) x r (ix2 i l) = x (ix3 0 i l) + r (ix3 0 i l) := by
  unfold hBlk; pointwise

theorem hPay_apply (x r : Vec Ideal S1x32x128 .bf16) (a : Fin 1) (i : Fin 32) (l : Fin 128) :
    hPay (F := Ideal) x r (ix3 a i l) = x (ix3 0 i l) + r (ix3 0 i l) := by
  unfold hPay hBlk; pointwise

theorem rsB_apply (ss : FVec Ideal S32x128 .f32) (i : Fin 32) (a : Fin 1) :
    rsB (F := Ideal) ss (ix2 i a) = Ideal.rsqrt (Ideal.div (∑ l, ss (ix2 i l)) (Ideal.ofBits .f32 0x45600000#32)
      + Ideal.ofBits .f32 0x358637BD#32) := by
  unfold rsB; pointwise

theorem yB_apply (rs : FVec Ideal S32x1 .f32) (hb : Vec Ideal S1x32x128 .bf16) (gb : Vec Ideal S1x128 .f32) (i : Fin 32) (l : Fin 128) :
    yB (F := Ideal) rs hb gb (ix2 i l) = hb (ix3 0 i l) * rs (ix2 i 0) * gb (ix2 0 l) := by
  unfold yB; pointwise

theorem amaxB_apply (yv : FVec Ideal S32x128 .f32) (i : Fin 32) (a : Fin 1) :
    amaxB (F := Ideal) yv (ix2 i a) = Spec.amaxOf fun l => yv (ix2 i l) := by
  unfold amaxB Spec.amaxOf; pointwise; rfl

theorem amaxPay_apply (rs : FVec Ideal S32x1 .f32) (hb : Vec Ideal S1x32x128 .bf16) (gb : Vec Ideal S1x128 .f32) (i : Fin 32) (a : Fin 1) :
    amaxPay (F := Ideal) rs hb gb (ix2 i a) = Spec.amaxOf fun l => hb (ix3 0 i l) * rs (ix2 i 0) * gb (ix2 0 l) := by
  unfold amaxPay; rw [shapeCast_self, amaxB_apply]; simp only [yB_apply]

theorem fieldV_apply {s : Shape} (t : FVec Ideal s .f32) (y : s.Idx) : fieldV (F := Ideal) s t y = Spec.field (t y) := by
  unfold fieldV Spec.field Spec.nOf
  have := IdealRules.named_const.ideal_named_scalar (φ := .f32) κ "ln2" 0x3F317218#32 ((Real.log 2 : ℝ) : EReal) rfl
  rw [this]; rfl

/-- The magnitude over 448, spread over the block. -/
theorem tB_apply (yv : FVec Ideal S32x128 .f32) (i : Fin 32) (l : Fin 128) :
    broadcastTo S32x128 (shapeCast S32x1 (mulf (amaxB (F := Ideal) yv)
      (broadcast S32x1 (Scalar.ofBits .f32 0x3B124925#32))) shapeCasts_S32x1_S32x1) broadcasts_S32x1_S32x128 (ix2 i l)
      = Spec.tOf (Spec.amaxOf fun l => yv (ix2 i l)) := by
  rw [← amaxB_apply yv i 0]; unfold Spec.tOf; pointwise

theorem codesB_apply (c : BitVec 32) (yv : FVec Ideal S32x128 .f32) (i : Fin 32) (l : Fin 128) :
    codesB (F := Ideal) c yv (ix2 i l) = Spec.clip (yv (ix2 i l) * Spec.invKc c (Spec.amaxOf fun l => yv (ix2 i l))) := by
  have h := fieldV_apply (broadcastTo S32x128 (shapeCast S32x1 (mulf (amaxB (F := Ideal) yv)
      (broadcast S32x1 (Scalar.ofBits .f32 0x3B124925#32))) shapeCasts_S32x1_S32x1) broadcasts_S32x1_S32x128) (ix2 i l)
  rw [tB_apply] at h
  unfold Spec.invKc; rw [← h]; rfl

theorem cast8_apply (v : FVec Ideal S32x128 .fp8e4m3) (a : Fin 1) (i : Fin 32) (l : Fin 128) :
    shapeCast S1x32x128 v shapeCasts_S32x128_S1x32x128 (ix3 a i l) = v (ix2 i l) := by pointwise

theorem codesPay_apply (rs : FVec Ideal S32x1 .f32) (hb : Vec Ideal S1x32x128 .bf16) (gb : Vec Ideal S1x128 .f32) (a : Fin 1) (i : Fin 32) (l : Fin 128) :
    codesPay (F := Ideal) rs hb gb (ix3 a i l) = Spec.clip (hb (ix3 0 i l) * rs (ix2 i 0) * gb (ix2 0 l)
      * Spec.invK (Spec.amaxOf fun l => hb (ix3 0 i l) * rs (ix2 i 0) * gb (ix2 0 l))) := by
  unfold codesPay
  rw [cast8_apply, codesB_apply]; simp only [yB_apply]; rfl

theorem sel_apply (w c : BitVec 32) : Scalar.select (IntOp.cmpi CmpIPredicate.eq w 0#32) (1 : EReal) (Ideal.ofBits .f32 (IntOp.addi w c))
    = if w = 0#32 then Ideal.ofBits .f32 0x3F800000#32 else Ideal.ofBits .f32 (w + c) := by
  rw [Spec.c_one]
  by_cases h : w = 0#32
  · rw [if_pos h, h]; rfl
  · rw [if_neg h]
    have : IntOp.cmpi CmpIPredicate.eq w 0#32 = 0#1 := by
      show BitVec.ofBool (w == 0#32) = 0#1
      rw [beq_eq_false_iff_ne.mpr h]; rfl
    rw [this]; rfl

theorem sclPay_apply (c : BitVec 32) (v : Vec Ideal S128x128 .f32) (a : Fin 1) (j : Fin 28) (i : Fin 128) :
    sclPay (F := Ideal) c v (ix3 a j i) = Spec.sclKc c (v (ix2 i ⟨j.val, by omega⟩)) := by
  unfold sclPay; pointwise
  rw [fieldV_apply]
  exact sel_apply _ c

end Cert.KernelIdeal.Own

end
-- ==== Proof.Blocks.lean ====
/- The arrays a grid point handles, as functions of row and column numbers, and what a list of stores must
   satisfy for the buffer it fills to be one function of the index: `Good`. -/
module

public import proofs.«01_k».proof.Proof.Pay

@[expose] public section

set_option maxRecDepth 16384

noncomputable section

namespace Cert.KernelIdeal.Own

open Idealize.ShloMosaic Idealize.ShloMosaic.TcCoe Idealize.ShloMosaic.Tactic
open Cert.KernelIdeal Cert.KernelIdeal.Gen Cert

/-- A block's element at row and column numbers (zero outside). -/
def at3 (v : S1x512x3584.Idx → EReal) (r c : ℕ) : EReal :=
  if h : r < 512 ∧ c < 3584 then v (ix3 0 ⟨r, h.1⟩ ⟨c, h.2⟩) else 0

/-- The weight at a column number (zero outside). -/
def at2 (g : S1x3584.Idx → EReal) (c : ℕ) : EReal := if h : c < 3584 then g (ix2 0 ⟨c, h⟩) else 0

theorem at3_eq (v : S1x512x3584.Idx → EReal) (y : S1x512x3584.Idx) {r c : ℕ} (hr : (y 1).val = r) (hc : (y 2).val = c) :
    at3 v r c = v y := by
  subst hr hc
  unfold at3
  rw [dif_pos ⟨(y 1).isLt, (y 2).isLt⟩]
  congr 1; funext a
  match a with
  | ⟨0, _⟩ => apply Fin.ext; have : (y 0).val < 1 := (y 0).isLt; show 0 = (y 0).val; omega
  | ⟨1, _⟩ => rfl
  | ⟨2, _⟩ => rfl

theorem at2_eq (g : S1x3584.Idx → EReal) (y : S1x3584.Idx) {c : ℕ} (hc : (y 1).val = c) : at2 g c = g y := by
  subst hc
  unfold at2
  rw [dif_pos (show (y 1).val < 3584 from (y 1).isLt)]
  congr 1; funext a
  match a with
  | ⟨0, _⟩ => apply Fin.ext; have : (y 0).val < 1 := (y 0).isLt; show 0 = (y 0).val; omega
  | ⟨1, _⟩ => rfl

/-- One row of a block and one copy of the weights, as 28 blocks of 128. -/
def rowOf (v : S1x512x3584.Idx → EReal) (r : ℕ) (j : Fin 28) (l : Fin 128) : EReal := at3 v r (128 * j.val + l.val)
def wOf (g : S1x3584.Idx → EReal) (j : Fin 28) (l : Fin 128) : EReal := at2 g (128 * j.val + l.val)

/-- The sum of the two inputs. -/
def hArr (x r : S1x512x3584.Idx → EReal) : S1x512x3584.Idx → EReal := fun y => x y + r y

/-- The largest magnitude of block `j` of row `i`. -/
def amaxAt (x r : S1x512x3584.Idx → EReal) (g : S1x3584.Idx → EReal) (i : ℕ) (j : Fin 28) : EReal :=
  Spec.amaxOf fun l => Spec.y (rowOf (hArr x r) i) (wOf g) j l

/-- The block number of a column. -/
def blkNo (c : Fin 3584) : Fin 28 := ⟨c.val / 128, by omega⟩
/-- The lane of a column. -/
def laneNo (c : Fin 3584) : Fin 128 := ⟨c.val % 128, by omega⟩

/-- The codes the kernel stores. -/
def codesArr (x r : S1x512x3584.Idx → EReal) (g : S1x3584.Idx → EReal) : S1x512x3584.Idx → EReal := fun y =>
  Spec.clip (Spec.y (rowOf (hArr x r) (y 1).val) (wOf g) (blkNo (y 2)) (laneNo (y 2))
    * Spec.invK (amaxAt x r g (y 1).val (blkNo (y 2))))

/-- The magnitudes the kernel keeps (only the first 28 columns are stored). -/
def amaxArr (x r : S1x512x3584.Idx → EReal) (g : S1x3584.Idx → EReal) : S512x128.Idx → EReal := fun y =>
  if h : (y 1).val < 28 then amaxAt x r g (y 0).val ⟨(y 1).val, h⟩ else 0

/-- Stores that agree with one function and cover a region. -/
def Good {S : Shape} {e : EltTy} (L : List (View.Piece (Elt Ideal) S e)) (G : S.Idx → Elt Ideal e) (D : S.Idx → Prop) : Prop :=
  (∀ p ∈ L, ∀ x : p.1.shape.Idx, p.2 x = G (p.1.emb x)) ∧ ∀ y, D y → ∃ p ∈ L, y ∈ p.1.set

theorem Good.nil {S : Shape} {e : EltTy} (G : S.Idx → Elt Ideal e) {D : S.Idx → Prop} (h : ∀ y, ¬ D y) : Good [] G D :=
  ⟨fun _ hp => absurd hp List.not_mem_nil, fun y hy => absurd hy (h y)⟩

theorem Good.cons {S : Shape} {e : EltTy} {L : List (View.Piece (Elt Ideal) S e)} {G : S.Idx → Elt Ideal e} {D D' : S.Idx → Prop}
    (p : View.Piece (Elt Ideal) S e) (hp : ∀ x : p.1.shape.Idx, p.2 x = G (p.1.emb x)) (hD : ∀ y, D' y → D y ∨ y ∈ p.1.set)
    (h : Good L G D) : Good (p :: L) G D' := by
  refine ⟨fun q hq => ?_, fun y hy => ?_⟩
  · rcases List.mem_cons.mp hq with rfl | hq
    · exact hp
    · exact h.1 q hq
  · rcases hD y hy with hy | hy
    · obtain ⟨q, hq, hm⟩ := h.2 y hy; exact ⟨q, List.mem_cons_of_mem _ hq, hm⟩
    · exact ⟨p, List.mem_cons_self, hy⟩

theorem Good.append {S : Shape} {e : EltTy} {L L' : List (View.Piece (Elt Ideal) S e)} {G : S.Idx → Elt Ideal e} {D D' D'' : S.Idx → Prop}
    (h : Good L G D) (h' : Good L' G D') (hD : ∀ y, D'' y → D y ∨ D' y) : Good (L ++ L') G D'' := by
  refine ⟨fun q hq => ?_, fun y hy => ?_⟩
  · rcases List.mem_append.mp hq with hq | hq
    · exact h.1 q hq
    · exact h'.1 q hq
  · rcases hD y hy with hy | hy
    · obtain ⟨q, hq, hm⟩ := h.2 y hy; exact ⟨q, List.mem_append_left _ hq, hm⟩
    · obtain ⟨q, hq, hm⟩ := h'.2 y hy; exact ⟨q, List.mem_append_right _ hq, hm⟩

/-- Rows of trip `k`, first `n` blocks. -/
def D3 (k n : ℕ) (y : S1x512x3584.Idx) : Prop := 32 * k ≤ (y 1).val ∧ (y 1).val < 32 * k + 32 ∧ (y 2).val < 128 * n
/-- Rows of trip `k`, first `n` columns. -/
def D2 (k n : ℕ) (y : S512x128.Idx) : Prop := 32 * k ≤ (y 0).val ∧ (y 0).val < 32 * k + 32 ∧ (y 1).val < n

theorem Good.cons3 {e : EltTy} {L : List (View.Piece (Elt Ideal) S1x512x3584 e)} {G : S1x512x3584.Idx → Elt Ideal e} (k n : ℕ)
    {off : Fin 3 → ℕ} (hoff : off = ![0, 32 * k, 128 * n]) {inb} {w : S1x32x128.Idx → Elt Ideal e}
    (hp : ∀ x, w x = G ((Rect.unit (s := S1x512x3584) off S1x32x128.size inb).emb x)) (h : Good L G (D3 k n)) :
    Good (⟨Rect.unit (s := S1x512x3584) off S1x32x128.size inb, w⟩ :: L) G (D3 k (n + 1)) := by
  refine Good.cons _ hp (fun y hy => ?_) h
  obtain ⟨h1, h2, h3⟩ := hy
  by_cases hn : (y 2).val < 128 * n
  · exact Or.inl ⟨h1, h2, hn⟩
  · right
    show y ∈ (Rect.unit (s := S1x512x3584) off S1x32x128.size inb).set
    rw [Rect.mem_set_unit]; intro a
    subst hoff
    have h0 : (y 0).val < 1 := (y 0).isLt
    match a with
    | ⟨0, _⟩ => exact ⟨Nat.zero_le _, by show (y 0).val < 0 + 1; omega⟩
    | ⟨1, _⟩ => exact ⟨h1, h2⟩
    | ⟨2, _⟩ => exact ⟨by show 128 * n ≤ (y 2).val; omega, by show (y 2).val < 128 * n + 128; omega⟩

theorem Good.cons2 {e : EltTy} {L : List (View.Piece (Elt Ideal) S512x128 e)} {G : S512x128.Idx → Elt Ideal e} (k n : ℕ)
    {off : Fin 2 → ℕ} (hoff : off = ![32 * k, n]) {inb} {w : S32x1.Idx → Elt Ideal e}
    (hp : ∀ x, w x = G ((Rect.unit (s := S512x128) off S32x1.size inb).emb x)) (h : Good L G (D2 k n)) :
    Good (⟨Rect.unit (s := S512x128) off S32x1.size inb, w⟩ :: L) G (D2 k (n + 1)) := by
  refine Good.cons _ hp (fun y hy => ?_) h
  obtain ⟨h1, h2, h3⟩ := hy
  by_cases hn : (y 1).val < n
  · exact Or.inl ⟨h1, h2, hn⟩
  · right
    show y ∈ (Rect.unit (s := S512x128) off S32x1.size inb).set
    rw [Rect.mem_set_unit]; intro a
    subst hoff
    match a with
    | ⟨0, _⟩ => exact ⟨h1, h2⟩
    | ⟨1, _⟩ => exact ⟨by show n ≤ (y 1).val; omega, by show (y 1).val < n + 1; omega⟩

/-! ## The blocks loaded and stored by trip `k`, block `n` -/

/-- A load of a block through a view, at an index. -/
theorem readAt3 (M : Memref sig .tc .vmem S1x512x3584 .bf16) (X : M.view.ty.Contents (Elt Ideal)) (k n : ℕ)
    {off : Fin 3 → ℕ} (hoff : off = ![0, 32 * k, 128 * n]) {inb} (i : Fin 32) (l : Fin 128) :
    View.readAt (Elt Ideal) M.view (Rect.unit (s := S1x512x3584) off S1x32x128.size inb).toLoadRect X (ix3 0 i l)
      = at3 (M.view.read (Elt Ideal) X) (32 * k + i.val) (128 * n + l.val) := by
  subst hoff
  rw [View.readAt_apply]
  refine (at3_eq _ _ ?_ ?_).symm
  · show 32 * k + 1 * i.val = _; omega
  · show 128 * n + 1 * l.val = _; omega

/-- A load of 128 weights. -/
theorem readAt2 (M : Memref sig .tc .vmem S1x3584 .f32) (X : M.view.ty.Contents (Elt Ideal)) (n : ℕ)
    {off : Fin 2 → ℕ} (hoff : off = ![0, 128 * n]) {inb} (l : Fin 128) :
    View.readAt (Elt Ideal) M.view (Rect.unit (s := S1x3584) off S1x128.size inb).toLoadRect X (ix2 0 l)
      = at2 (M.view.read (Elt Ideal) X) (128 * n + l.val) := by
  subst hoff
  rw [View.readAt_apply]
  refine (at2_eq _ _ ?_).symm
  show 128 * n + 1 * l.val = _; omega

/-- A load back of a block from stores that agree with `G` and cover the block. -/
theorem readCov3 (M : Memref sig .tc .vmem S1x512x3584 .bf16) {L : List (View.Piece (Elt Ideal) S1x512x3584 .bf16)}
    {G : S1x512x3584.Idx → EReal} (k n : ℕ) (hn : n < 28) (h : Good (e := .bf16) L G (D3 k 28))
    {off : Fin 3 → ℕ} (hoff : off = ![0, 32 * k, 128 * n]) {inb} (i : Fin 32) (l : Fin 128) :
    M.view.readCov L (Rect.unit (s := S1x512x3584) off S1x32x128.size inb).toLoadRect (ix3 0 i l)
      = at3 G (32 * k + i.val) (128 * n + l.val) := by
  subst hoff
  rw [View.readCov_eq_canon']
  have e1 : (((Rect.unit (s := S1x512x3584) ![0, 32 * k, 128 * n] S1x32x128.size inb).idx (ix3 0 i l)) 1).val = 32 * k + i.val := by
    show 32 * k + 1 * i.val = _; omega
  have e2 : (((Rect.unit (s := S1x512x3584) ![0, 32 * k, 128 * n] S1x32x128.size inb).idx (ix3 0 i l)) 2).val = 128 * n + l.val := by
    show 128 * n + 1 * l.val = _; omega
  refine (View.canon_apply_of_pieces G L h.1 _ (h.2 _ ⟨?_, ?_, ?_⟩)).trans (at3_eq G _ e1 e2).symm
  · exact le_of_le_of_eq (by omega) e1.symm
  · exact lt_of_eq_of_lt e1 (by omega)
  · exact lt_of_eq_of_lt e2 (by omega)

/-- The sum of two row loads. -/
theorem at3_add (x r : S1x512x3584.Idx → EReal) (a b : ℕ) (ha : a < 512) (hb : b < 3584) : at3 x a b + at3 r a b = at3 (hArr x r) a b := by
  unfold at3; rw [dif_pos ⟨ha, hb⟩, dif_pos ⟨ha, hb⟩, dif_pos ⟨ha, hb⟩]; rfl

/-- The stored block of `h` is the block of the sum. -/
theorem hPay_ok {x r : S1x512x3584.Idx → EReal} (k n : ℕ) (hn : n < 28) {xb rb : Vec Ideal S1x32x128 .bf16} (hk : k < 16)
    (hx : ∀ i l, xb (ix3 0 i l) = at3 x (32 * k + i.val) (128 * n + l.val))
    (hr : ∀ i l, rb (ix3 0 i l) = at3 r (32 * k + i.val) (128 * n + l.val))
    {off : Fin 3 → ℕ} (hoff : off = ![0, 32 * k, 128 * n]) {inb} (y : S1x32x128.Idx) :
    hPay (F := Ideal) xb rb y = hArr x r ((Rect.unit (s := S1x512x3584) off S1x32x128.size inb).emb y) := by
  subst hoff
  obtain ⟨a, i, l, rfl⟩ : ∃ a i l, y = ix3 a i l := ⟨y 0, y 1, y 2, eq_ix3 y⟩
  rw [hPay_apply, hx, hr, at3_add _ _ _ _ (by omega) (by omega)]
  refine at3_eq _ _ ?_ ?_
  · show 32 * k + 1 * i.val = _; omega
  · show 128 * n + 1 * l.val = _; omega

/-- One more block in the per-lane sum of squares. -/
theorem ss_step {x r : S1x512x3584.Idx → EReal} (k n : ℕ) (hn : n < 28) (hk : k < 16) {v w : FVec Ideal S32x128 .f32}
    {xb rb : Vec Ideal S1x32x128 .bf16} (hv : v = addf w (sq (hBlk xb rb)))
    (hx : ∀ i l, xb (ix3 0 i l) = at3 x (32 * k + i.val) (128 * n + l.val))
    (hr : ∀ i l, rb (ix3 0 i l) = at3 r (32 * k + i.val) (128 * n + l.val))
    (hw : ∀ i l, w (ix2 i l) = ∑ j ∈ Finset.range n, at3 (hArr x r) (32 * k + i.val) (128 * j + l.val)
      * at3 (hArr x r) (32 * k + i.val) (128 * j + l.val)) (i : Fin 32) (l : Fin 128) :
    v (ix2 i l) = ∑ j ∈ Finset.range (n + 1), at3 (hArr x r) (32 * k + i.val) (128 * j + l.val)
      * at3 (hArr x r) (32 * k + i.val) (128 * j + l.val) := by
  rw [Finset.sum_range_succ, ← hw i l, hv]
  show w (ix2 i l) + hBlk (F := Ideal) xb rb (ix2 i l) * hBlk (F := Ideal) xb rb (ix2 i l) = _
  rw [hBlk_apply, hx, hr, at3_add _ _ _ _ (by omega) (by omega)]

/-- The reciprocal root mean square from the 28 squares. -/
theorem rs_ok {x r : S1x512x3584.Idx → EReal} (k : ℕ) {v : FVec Ideal S32x128 .f32}
    (hv : ∀ i l, v (ix2 i l) = ∑ j ∈ Finset.range 28, at3 (hArr x r) (32 * k + i.val) (128 * j + l.val)
      * at3 (hArr x r) (32 * k + i.val) (128 * j + l.val)) (i : Fin 32) :
    rsB (F := Ideal) v (ix2 i 0) = Spec.rs (rowOf (hArr x r) (32 * k + i.val)) := by
  rw [rsB_apply]
  have : (∑ l, v (ix2 i l)) = ∑ j : Fin 28, ∑ l : Fin 128, rowOf (hArr x r) (32 * k + i.val) j l * rowOf (hArr x r) (32 * k + i.val) j l := by
    simp only [hv]
    rw [Finset.sum_comm, Finset.sum_range]
    rfl
  rw [this]; rfl

/-- A normalised value. -/
theorem y_ok {x r : S1x512x3584.Idx → EReal} {g : S1x3584.Idx → EReal} (k n : ℕ) (hn : n < 28) {rs : FVec Ideal S32x1 .f32}
    {hb : Vec Ideal S1x32x128 .bf16} {gb : Vec Ideal S1x128 .f32}
    (hrs : ∀ i, rs (ix2 i 0) = Spec.rs (rowOf (hArr x r) (32 * k + i.val)))
    (hh : ∀ i l, hb (ix3 0 i l) = at3 (hArr x r) (32 * k + i.val) (128 * n + l.val))
    (hg : ∀ l, gb (ix2 0 l) = at2 g (128 * n + l.val)) (i : Fin 32) (l : Fin 128) :
    hb (ix3 0 i l) * rs (ix2 i 0) * gb (ix2 0 l) = Spec.y (rowOf (hArr x r) (32 * k + i.val)) (wOf g) ⟨n, hn⟩ l := by
  rw [hrs, hh, hg]; rfl

/-- The stored magnitudes. -/
theorem amaxPay_ok {x r : S1x512x3584.Idx → EReal} {g : S1x3584.Idx → EReal} (k n : ℕ) (hn : n < 28) {rs : FVec Ideal S32x1 .f32}
    {hb : Vec Ideal S1x32x128 .bf16} {gb : Vec Ideal S1x128 .f32}
    (hrs : ∀ i, rs (ix2 i 0) = Spec.rs (rowOf (hArr x r) (32 * k + i.val)))
    (hh : ∀ i l, hb (ix3 0 i l) = at3 (hArr x r) (32 * k + i.val) (128 * n + l.val))
    (hg : ∀ l, gb (ix2 0 l) = at2 g (128 * n + l.val))
    {off : Fin 2 → ℕ} (hoff : off = ![32 * k, n]) {inb} (y : S32x1.Idx) :
    amaxPay (F := Ideal) rs hb gb y = amaxArr x r g ((Rect.unit (s := S512x128) off S32x1.size inb).emb y) := by
  subst hoff
  obtain ⟨i, a, rfl⟩ : ∃ i a, y = ix2 i a := ⟨y 0, y 1, eq_ix2 y⟩
  rw [amaxPay_apply]
  simp only [y_ok k n hn hrs hh hg]
  have e0 : (((Rect.unit (s := S512x128) ![32 * k, n] S32x1.size inb).emb (ix2 i a)) 0).val = 32 * k + i.val := by
    show 32 * k + 1 * i.val = _; omega
  have e1 : (((Rect.unit (s := S512x128) ![32 * k, n] S32x1.size inb).emb (ix2 i a)) 1).val = n := by
    show n + 1 * a.val = _; omega
  unfold amaxArr
  rw [dif_pos (by rw [e1]; exact hn)]
  unfold amaxAt
  simp only [e0, e1]

/-- The stored codes. -/
theorem codesPay_ok {x r : S1x512x3584.Idx → EReal} {g : S1x3584.Idx → EReal} (k n : ℕ) (hn : n < 28) {rs : FVec Ideal S32x1 .f32}
    {hb : Vec Ideal S1x32x128 .bf16} {gb : Vec Ideal S1x128 .f32}
    (hrs : ∀ i, rs (ix2 i 0) = Spec.rs (rowOf (hArr x r) (32 * k + i.val)))
    (hh : ∀ i l, hb (ix3 0 i l) = at3 (hArr x r) (32 * k + i.val) (128 * n + l.val))
    (hg : ∀ l, gb (ix2 0 l) = at2 g (128 * n + l.val))
    {off : Fin 3 → ℕ} (hoff : off = ![0, 32 * k, 128 * n]) {inb} (y : S1x32x128.Idx) :
    codesPay (F := Ideal) rs hb gb y = codesArr x r g ((Rect.unit (s := S1x512x3584) off S1x32x128.size inb).emb y) := by
  subst hoff
  obtain ⟨a, i, l, rfl⟩ : ∃ a i l, y = ix3 a i l := ⟨y 0, y 1, y 2, eq_ix3 y⟩
  rw [codesPay_apply]
  simp only [y_ok k n hn hrs hh hg]
  have e1 : (((Rect.unit (s := S1x512x3584) ![0, 32 * k, 128 * n] S1x32x128.size inb).emb (ix3 a i l)) 1).val = 32 * k + i.val := by
    show 32 * k + 1 * i.val = _; omega
  have e2 : (((Rect.unit (s := S1x512x3584) ![0, 32 * k, 128 * n] S1x32x128.size inb).emb (ix3 a i l)) 2).val = 128 * n + l.val := by
    show 128 * n + 1 * l.val = _; omega
  have eb : blkNo (((Rect.unit (s := S1x512x3584) ![0, 32 * k, 128 * n] S1x32x128.size inb).emb (ix3 a i l)) 2) = ⟨n, hn⟩ := by
    apply Fin.ext; show (((Rect.unit (s := S1x512x3584) ![0, 32 * k, 128 * n] S1x32x128.size inb).emb (ix3 a i l)) 2).val / 128 = n
    rw [e2]; omega
  have el : laneNo (((Rect.unit (s := S1x512x3584) ![0, 32 * k, 128 * n] S1x32x128.size inb).emb (ix3 a i l)) 2) = l := by
    apply Fin.ext; show (((Rect.unit (s := S1x512x3584) ![0, 32 * k, 128 * n] S1x32x128.size inb).emb (ix3 a i l)) 2).val % 128 = l.val
    rw [e2]; omega
  unfold codesArr amaxAt
  rw [eb, el, e1]

/-! ## One store of each kind -/

theorem inb3 {k n : ℕ} (hk : k < 16) (hn : n < 28) {off : Fin 3 → ℕ} (hoff : off = ![0, 32 * k, 128 * n]) :
    ∀ a, off a + S1x32x128.size a ≤ S1x512x3584.size a := by
  subst hoff; intro a
  match a with
  | ⟨0, _⟩ => show 0 + 1 ≤ 1; omega
  | ⟨1, _⟩ => show 32 * k + 32 ≤ 512; omega
  | ⟨2, _⟩ => show 128 * n + 128 ≤ 3584; omega

theorem inb2 {n : ℕ} (hn : n < 28) : ∀ a, (![0, 128 * n] : Fin 2 → ℕ) a + S1x128.size a ≤ S1x3584.size a := by
  intro a
  match a with
  | ⟨0, _⟩ => show 0 + 1 ≤ 1; omega
  | ⟨1, _⟩ => show 128 * n + 128 ≤ 3584; omega

section Piece
variable (M2 M3 : Memref sig .tc .vmem S1x512x3584 .bf16) (M4 : Memref sig .tc .vmem S1x3584 .f32) (M5 : Memref sig .tc .vmem S1x512x3584 .bf16)
  (X2 : M2.view.ty.Contents (Elt Ideal)) (X3 : M3.view.ty.Contents (Elt Ideal)) (X4 : M4.view.ty.Contents (Elt Ideal))

/-- A store of `h`. -/
theorem hPiece {k : ℕ} (hk : k < 16) (n : ℕ) (hn : n < 28) {off : Fin 3 → ℕ} (hoff : off = ![0, 32 * k, 128 * n])
    {w : S1x32x128.Idx → Elt Ideal .bf16}
    (hw : w = hPay (F := Ideal)
      (View.readAt (Elt Ideal) M2.view (Rect.unit (s := S1x512x3584) off S1x32x128.size (inb3 hk hn hoff)).toLoadRect X2)
      (View.readAt (Elt Ideal) M3.view (Rect.unit (s := S1x512x3584) off S1x32x128.size (inb3 hk hn hoff)).toLoadRect X3)) {inb} :
    ∀ y, w y = hArr (M2.view.read (Elt Ideal) X2) (M3.view.read (Elt Ideal) X3) ((Rect.unit (s := S1x512x3584) off S1x32x128.size inb).emb y) := by
  intro y; rw [hw]
  exact hPay_ok k n hn hk (readAt3 M2 X2 k n hoff) (readAt3 M3 X3 k n hoff) hoff y

/-- One more square. -/
theorem ssPiece {k : ℕ} (hk : k < 16) (n : ℕ) (hn : n < 28) {off : Fin 3 → ℕ} (hoff : off = ![0, 32 * k, 128 * n])
    {v w : FVec Ideal S32x128 .f32}
    (hw : ∀ i l, w (ix2 i l) = ∑ j ∈ Finset.range n, at3 (hArr (M2.view.read (Elt Ideal) X2) (M3.view.read (Elt Ideal) X3)) (32 * k + i.val) (128 * j + l.val)
      * at3 (hArr (M2.view.read (Elt Ideal) X2) (M3.view.read (Elt Ideal) X3)) (32 * k + i.val) (128 * j + l.val))
    (hv : v = addf w (sq (hBlk (F := Ideal)
      (View.readAt (Elt Ideal) M2.view (Rect.unit (s := S1x512x3584) off S1x32x128.size (inb3 hk hn hoff)).toLoadRect X2)
      (View.readAt (Elt Ideal) M3.view (Rect.unit (s := S1x512x3584) off S1x32x128.size (inb3 hk hn hoff)).toLoadRect X3)))) :
    ∀ i l, v (ix2 i l) = ∑ j ∈ Finset.range (n + 1), at3 (hArr (M2.view.read (Elt Ideal) X2) (M3.view.read (Elt Ideal) X3)) (32 * k + i.val) (128 * j + l.val)
      * at3 (hArr (M2.view.read (Elt Ideal) X2) (M3.view.read (Elt Ideal) X3)) (32 * k + i.val) (128 * j + l.val) :=
  ss_step k n hn hk hv (readAt3 M2 X2 k n hoff) (readAt3 M3 X3 k n hoff) hw

variable {x r : S1x512x3584.Idx → EReal}

/-- A store of codes. -/
theorem cPiece {k : ℕ} (hk : k < 16) {L : List (View.Piece (Elt Ideal) S1x512x3584 .bf16)} (hL : Good (e := .bf16) L (hArr x r) (D3 k 28))
    {rs : FVec Ideal S32x1 .f32} (hrs : ∀ i, rs (ix2 i 0) = Spec.rs (rowOf (hArr x r) (32 * k + i.val)))
    (n : ℕ) (hn : n < 28) {off : Fin 3 → ℕ} (hoff : off = ![0, 32 * k, 128 * n])
    {w : S1x32x128.Idx → Elt Ideal .fp8e4m3}
    (hw : w = codesPay (F := Ideal) rs
      (M5.view.readCov L (Rect.unit (s := S1x512x3584) off S1x32x128.size (inb3 hk hn hoff)).toLoadRect)
      (View.readAt (Elt Ideal) M4.view (Rect.unit (s := S1x3584) ![0, 128 * n] S1x128.size (inb2 hn)).toLoadRect X4)) {inb} :
    ∀ y, w y = codesArr x r (M4.view.read (Elt Ideal) X4) ((Rect.unit (s := S1x512x3584) off S1x32x128.size inb).emb y) := by
  intro y; rw [hw]
  exact codesPay_ok k n hn hrs (readCov3 M5 k n hn hL hoff) (readAt2 M4 X4 n rfl) hoff y

/-- A store of magnitudes. -/
theorem aPiece {k : ℕ} (hk : k < 16) {L : List (View.Piece (Elt Ideal) S1x512x3584 .bf16)} (hL : Good (e := .bf16) L (hArr x r) (D3 k 28))
    {rs : FVec Ideal S32x1 .f32} (hrs : ∀ i, rs (ix2 i 0) = Spec.rs (rowOf (hArr x r) (32 * k + i.val)))
    (n : ℕ) (hn : n < 28) {off : Fin 3 → ℕ} (hoff : off = ![0, 32 * k, 128 * n]) {off' : Fin 2 → ℕ} (hoff' : off' = ![32 * k, n])
    {w : S32x1.Idx → Elt Ideal .f32}
    (hw : w = amaxPay (F := Ideal) rs
      (M5.view.readCov L (Rect.unit (s := S1x512x3584) off S1x32x128.size (inb3 hk hn hoff)).toLoadRect)
      (View.readAt (Elt Ideal) M4.view (Rect.unit (s := S1x3584) ![0, 128 * n] S1x128.size (inb2 hn)).toLoadRect X4)) {inb} :
    ∀ y, w y = amaxArr x r (M4.view.read (Elt Ideal) X4) ((Rect.unit (s := S512x128) off' S32x1.size inb).emb y) := by
  intro y; rw [hw]
  exact amaxPay_ok k n hn hrs (readCov3 M5 k n hn hL hoff) (readAt2 M4 X4 n rfl) hoff' y

end Piece

end Cert.KernelIdeal.Own

end
-- ==== Proof.Trip.lean ====
/- One trip of the kernel's loop: its stores to the three buffers are the closed forms of `Blocks`, and they
   cover the 32 rows of the trip. -/
module

public import proofs.«01_k».proof.Proof.Gen.KernelIdeal.Loops
public import proofs.«01_k».proof.Proof.Blocks

@[expose] public section

set_option maxRecDepth 16384

noncomputable section

namespace Cert.KernelIdeal.Own

open Idealize.ShloMosaic Idealize.ShloMosaic.TcCoe Idealize.ShloMosaic.Tactic
open Cert.KernelIdeal Cert.KernelIdeal.Gen Cert

theorem trips16 : k0_t1_loop.trips = 16 := by decide

theorem hk16 (k : Fin k0_t1_loop.trips) : k.val < 16 := lt_of_lt_of_eq k.isLt trips16

section
variable (M2 M3 : Memref sig .tc .vmem S1x512x3584 .bf16) (M4 : Memref sig .tc .vmem S1x3584 .f32) (M5 : Memref sig .tc .vmem S1x512x3584 .bf16)
  (X2 : M2.view.ty.Contents (Elt Ideal)) (X3 : M3.view.ty.Contents (Elt Ideal)) (X4 : M4.view.ty.Contents (Elt Ideal))
  (k : Fin k0_t1_loop.trips)

/-- The stores of `h` of one trip. -/
theorem goodH : Good (e := .bf16) (trip_k0_t1.sl.HW_arg5_28 (F := Ideal) M2 M3 X2 X3 k)
    (hArr (M2.view.read (Elt Ideal) X2) (M3.view.read (Elt Ideal) X3)) (D3 k.val 28) := by
  have hk := hk16 k
  unfold trip_k0_t1.sl.HW_arg5_28
  refine Good.cons3 k.val 27 (k0_off28_eq k) (hPiece M2 M3 X2 X3 hk 27 (by decide) (k0_off28_eq k) rfl) ?_
  refine Good.cons3 k.val 26 (k0_off27_eq k) (hPiece M2 M3 X2 X3 hk 26 (by decide) (k0_off27_eq k) rfl) ?_
  refine Good.cons3 k.val 25 (k0_off26_eq k) (hPiece M2 M3 X2 X3 hk 25 (by decide) (k0_off26_eq k) rfl) ?_
  refine Good.cons3 k.val 24 (k0_off25_eq k) (hPiece M2 M3 X2 X3 hk 24 (by decide) (k0_off25_eq k) rfl) ?_
  refine Good.cons3 k.val 23 (k0_off24_eq k) (hPiece M2 M3 X2 X3 hk 23 (by decide) (k0_off24_eq k) rfl) ?_
  refine Good.cons3 k.val 22 (k0_off23_eq k) (hPiece M2 M3 X2 X3 hk 22 (by decide) (k0_off23_eq k) rfl) ?_
  refine Good.cons3 k.val 21 (k0_off22_eq k) (hPiece M2 M3 X2 X3 hk 21 (by decide) (k0_off22_eq k) rfl) ?_
  refine Good.cons3 k.val 20 (k0_off21_eq k) (hPiece M2 M3 X2 X3 hk 20 (by decide) (k0_off21_eq k) rfl) ?_
  refine Good.cons3 k.val 19 (k0_off20_eq k) (hPiece M2 M3 X2 X3 hk 19 (by decide) (k0_off20_eq k) rfl) ?_
  refine Good.cons3 k.val 18 (k0_off19_eq k) (hPiece M2 M3 X2 X3 hk 18 (by decide) (k0_off19_eq k) rfl) ?_
  refine Good.cons3 k.val 17 (k0_off18_eq k) (hPiece M2 M3 X2 X3 hk 17 (by decide) (k0_off18_eq k) rfl) ?_
  refine Good.cons3 k.val 16 (k0_off17_eq k) (hPiece M2 M3 X2 X3 hk 16 (by decide) (k0_off17_eq k) rfl) ?_
  refine Good.cons3 k.val 15 (k0_off16_eq k) (hPiece M2 M3 X2 X3 hk 15 (by decide) (k0_off16_eq k) rfl) ?_
  refine Good.cons3 k.val 14 (k0_off15_eq k) (hPiece M2 M3 X2 X3 hk 14 (by decide) (k0_off15_eq k) rfl) ?_
  refine Good.cons3 k.val 13 (k0_off14_eq k) (hPiece M2 M3 X2 X3 hk 13 (by decide) (k0_off14_eq k) rfl) ?_
  refine Good.cons3 k.val 12 (k0_off13_eq k) (hPiece M2 M3 X2 X3 hk 12 (by decide) (k0_off13_eq k) rfl) ?_
  refine Good.cons3 k.val 11 (k0_off12_eq k) (hPiece M2 M3 X2 X3 hk 11 (by decide) (k0_off12_eq k) rfl) ?_
  refine Good.cons3 k.val 10 (k0_off11_eq k) (hPiece M2 M3 X2 X3 hk 10 (by decide) (k0_off11_eq k) rfl) ?_
  refine Good.cons3 k.val 9 (k0_off10_eq k) (hPiece M2 M3 X2 X3 hk 9 (by decide) (k0_off10_eq k) rfl) ?_
  refine Good.cons3 k.val 8 (k0_off9_eq k) (hPiece M2 M3 X2 X3 hk 8 (by decide) (k0_off9_eq k) rfl) ?_
  refine Good.cons3 k.val 7 (k0_off8_eq k) (hPiece M2 M3 X2 X3 hk 7 (by decide) (k0_off8_eq k) rfl) ?_
  refine Good.cons3 k.val 6 (k0_off7_eq k) (hPiece M2 M3 X2 X3 hk 6 (by decide) (k0_off7_eq k) rfl) ?_
  refine Good.cons3 k.val 5 (k0_off6_eq k) (hPiece M2 M3 X2 X3 hk 5 (by decide) (k0_off6_eq k) rfl) ?_
  refine Good.cons3 k.val 4 (k0_off5_eq k) (hPiece M2 M3 X2 X3 hk 4 (by decide) (k0_off5_eq k) rfl) ?_
  refine Good.cons3 k.val 3 (k0_off4_eq k) (hPiece M2 M3 X2 X3 hk 3 (by decide) (k0_off4_eq k) rfl) ?_
  refine Good.cons3 k.val 2 (k0_off3_eq k) (hPiece M2 M3 X2 X3 hk 2 (by decide) (k0_off3_eq k) rfl) ?_
  refine Good.cons3 k.val 1 (k0_off2_eq k) (hPiece M2 M3 X2 X3 hk 1 (by decide) (k0_off2_eq k) rfl) ?_
  refine Good.cons3 k.val 0 (k0_off1_eq k) (hPiece M2 M3 X2 X3 hk 0 (by decide) (k0_off1_eq k) rfl) ?_
  exact Good.nil _ fun y h => absurd h.2.2 (by omega)

/-- The per-lane sums of squares of one trip, and the reciprocal root mean square. -/
theorem rs_trip (i : Fin 32) : trip_k0_t1.sl.r (F := Ideal) M2 M3 X2 X3 k (ix2 i 0)
    = Spec.rs (rowOf (hArr (M2.view.read (Elt Ideal) X2) (M3.view.read (Elt Ideal) X3)) (32 * k.val + i.val)) := by
  have hk := hk16 k
  have h0 : ∀ (i : Fin 32) (l : Fin 128), trip_k0_t1.sl.v115 (F := Ideal) (ix2 i l) = ∑ j ∈ Finset.range 0, at3 (hArr (M2.view.read (Elt Ideal) X2) (M3.view.read (Elt Ideal) X3)) (32 * k.val + i.val) (128 * j + l.val)
      * at3 (hArr (M2.view.read (Elt Ideal) X2) (M3.view.read (Elt Ideal) X3)) (32 * k.val + i.val) (128 * j + l.val) :=
    fun _ _ => Spec.c_zero
  have h1 := ssPiece M2 M3 X2 X3 hk 0 (by decide) (k0_off1_eq k) (v := trip_k0_t1.sl.v132 (F := Ideal) M2 M3 X2 X3 k) h0 rfl
  have h2 := ssPiece M2 M3 X2 X3 hk 1 (by decide) (k0_off2_eq k) (v := trip_k0_t1.sl.v149 (F := Ideal) M2 M3 X2 X3 k) h1 rfl
  have h3 := ssPiece M2 M3 X2 X3 hk 2 (by decide) (k0_off3_eq k) (v := trip_k0_t1.sl.v166 (F := Ideal) M2 M3 X2 X3 k) h2 rfl
  have h4 := ssPiece M2 M3 X2 X3 hk 3 (by decide) (k0_off4_eq k) (v := trip_k0_t1.sl.v183 (F := Ideal) M2 M3 X2 X3 k) h3 rfl
  have h5 := ssPiece M2 M3 X2 X3 hk 4 (by decide) (k0_off5_eq k) (v := trip_k0_t1.sl.v200 (F := Ideal) M2 M3 X2 X3 k) h4 rfl
  have h6 := ssPiece M2 M3 X2 X3 hk 5 (by decide) (k0_off6_eq k) (v := trip_k0_t1.sl.v217 (F := Ideal) M2 M3 X2 X3 k) h5 rfl
  have h7 := ssPiece M2 M3 X2 X3 hk 6 (by decide) (k0_off7_eq k) (v := trip_k0_t1.sl.v234 (F := Ideal) M2 M3 X2 X3 k) h6 rfl
  have h8 := ssPiece M2 M3 X2 X3 hk 7 (by decide) (k0_off8_eq k) (v := trip_k0_t1.sl.v251 (F := Ideal) M2 M3 X2 X3 k) h7 rfl
  have h9 := ssPiece M2 M3 X2 X3 hk 8 (by decide) (k0_off9_eq k) (v := trip_k0_t1.sl.v268 (F := Ideal) M2 M3 X2 X3 k) h8 rfl
  have h10 := ssPiece M2 M3 X2 X3 hk 9 (by decide) (k0_off10_eq k) (v := trip_k0_t1.sl.v285 (F := Ideal) M2 M3 X2 X3 k) h9 rfl
  have h11 := ssPiece M2 M3 X2 X3 hk 10 (by decide) (k0_off11_eq k) (v := trip_k0_t1.sl.v302 (F := Ideal) M2 M3 X2 X3 k) h10 rfl
  have h12 := ssPiece M2 M3 X2 X3 hk 11 (by decide) (k0_off12_eq k) (v := trip_k0_t1.sl.v319 (F := Ideal) M2 M3 X2 X3 k) h11 rfl
  have h13 := ssPiece M2 M3 X2 X3 hk 12 (by decide) (k0_off13_eq k) (v := trip_k0_t1.sl.v336 (F := Ideal) M2 M3 X2 X3 k) h12 rfl
  have h14 := ssPiece M2 M3 X2 X3 hk 13 (by decide) (k0_off14_eq k) (v := trip_k0_t1.sl.v353 (F := Ideal) M2 M3 X2 X3 k) h13 rfl
  have h15 := ssPiece M2 M3 X2 X3 hk 14 (by decide) (k0_off15_eq k) (v := trip_k0_t1.sl.v370 (F := Ideal) M2 M3 X2 X3 k) h14 rfl
  have h16 := ssPiece M2 M3 X2 X3 hk 15 (by decide) (k0_off16_eq k) (v := trip_k0_t1.sl.v387 (F := Ideal) M2 M3 X2 X3 k) h15 rfl
  have h17 := ssPiece M2 M3 X2 X3 hk 16 (by decide) (k0_off17_eq k) (v := trip_k0_t1.sl.v404 (F := Ideal) M2 M3 X2 X3 k) h16 rfl
  have h18 := ssPiece M2 M3 X2 X3 hk 17 (by decide) (k0_off18_eq k) (v := trip_k0_t1.sl.v421 (F := Ideal) M2 M3 X2 X3 k) h17 rfl
  have h19 := ssPiece M2 M3 X2 X3 hk 18 (by decide) (k0_off19_eq k) (v := trip_k0_t1.sl.v438 (F := Ideal) M2 M3 X2 X3 k) h18 rfl
  have h20 := ssPiece M2 M3 X2 X3 hk 19 (by decide) (k0_off20_eq k) (v := trip_k0_t1.sl.v455 (F := Ideal) M2 M3 X2 X3 k) h19 rfl
  have h21 := ssPiece M2 M3 X2 X3 hk 20 (by decide) (k0_off21_eq k) (v := trip_k0_t1.sl.v472 (F := Ideal) M2 M3 X2 X3 k) h20 rfl
  have h22 := ssPiece M2 M3 X2 X3 hk 21 (by decide) (k0_off22_eq k) (v := trip_k0_t1.sl.v489 (F := Ideal) M2 M3 X2 X3 k) h21 rfl
  have h23 := ssPiece M2 M3 X2 X3 hk 22 (by decide) (k0_off23_eq k) (v := trip_k0_t1.sl.v506 (F := Ideal) M2 M3 X2 X3 k) h22 rfl
  have h24 := ssPiece M2 M3 X2 X3 hk 23 (by decide) (k0_off24_eq k) (v := trip_k0_t1.sl.v523 (F := Ideal) M2 M3 X2 X3 k) h23 rfl
  have h25 := ssPiece M2 M3 X2 X3 hk 24 (by decide) (k0_off25_eq k) (v := trip_k0_t1.sl.v540 (F := Ideal) M2 M3 X2 X3 k) h24 rfl
  have h26 := ssPiece M2 M3 X2 X3 hk 25 (by decide) (k0_off26_eq k) (v := trip_k0_t1.sl.v557 (F := Ideal) M2 M3 X2 X3 k) h25 rfl
  have h27 := ssPiece M2 M3 X2 X3 hk 26 (by decide) (k0_off27_eq k) (v := trip_k0_t1.sl.v574 (F := Ideal) M2 M3 X2 X3 k) h26 rfl
  exact rs_ok k.val (ssPiece M2 M3 X2 X3 hk 27 (by decide) (k0_off28_eq k) h27 rfl) i

/-- The stores of the codes and of the magnitudes of one trip. -/
theorem goodCA (𝒱 : Variants) (c : Dev nD) (bd : Option 𝒱.V) (i : grid0.Coords) (hM2 : M2.IsWhole) (hM3 : M3.IsWhole) (hM4 : M4.IsWhole) (hM5 : M5.IsWhole)
    (M6 : Memref sig .tc .vmem S1x512x3584 .fp8e4m3) (hM6 : M6.IsWhole) (M7 : Memref sig .tc .vmem S1x28x512 .f32) (hM7 : M7.IsWhole)
    (M8 : Memref sig .tc .vmem S512x128 .f32) (hM8 : M8.IsWhole) (f5 : M5.view.ty.Contents (Elt Ideal)) (f6 : M6.view.ty.Contents (Elt Ideal)) (f8 : M8.view.ty.Contents (Elt Ideal)) :
    Good (e := .bf16) ((trip_k0_t1 (F := Ideal) 𝒱 c bd i M2 hM2 M3 hM3 M4 hM4 M5 hM5 M6 hM6 M7 hM7 M8 hM8 X2 X3 X4 k).1 f5 f6 f8)
      (hArr (M2.view.read (Elt Ideal) X2) (M3.view.read (Elt Ideal) X3)) (D3 k.val 28)
    ∧ Good (e := .fp8e4m3) ((trip_k0_t1 (F := Ideal) 𝒱 c bd i M2 hM2 M3 hM3 M4 hM4 M5 hM5 M6 hM6 M7 hM7 M8 hM8 X2 X3 X4 k).2.1 f5 f6 f8)
      (codesArr (M2.view.read (Elt Ideal) X2) (M3.view.read (Elt Ideal) X3) (M4.view.read (Elt Ideal) X4)) (D3 k.val 28)
    ∧ Good (e := .f32) ((trip_k0_t1 (F := Ideal) 𝒱 c bd i M2 hM2 M3 hM3 M4 hM4 M5 hM5 M6 hM6 M7 hM7 M8 hM8 X2 X3 X4 k).2.2.1 f5 f6 f8)
      (amaxArr (M2.view.read (Elt Ideal) X2) (M3.view.read (Elt Ideal) X3) (M4.view.read (Elt Ideal) X4)) (D2 k.val 28) := by
  have hk := hk16 k
  have hL := goodH M2 M3 X2 X3 k
  have hr := rs_trip M2 M3 X2 X3 k
  unfold trip_k0_t1
  refine ⟨hL, ?_, ?_⟩
  · refine Good.cons3 k.val 27 (k0_off28_eq k) (cPiece M4 M5 X4 hk hL hr 27 (by decide) (k0_off28_eq k) rfl) ?_
    refine Good.cons3 k.val 26 (k0_off27_eq k) (cPiece M4 M5 X4 hk hL hr 26 (by decide) (k0_off27_eq k) rfl) ?_
    refine Good.cons3 k.val 25 (k0_off26_eq k) (cPiece M4 M5 X4 hk hL hr 25 (by decide) (k0_off26_eq k) rfl) ?_
    refine Good.cons3 k.val 24 (k0_off25_eq k) (cPiece M4 M5 X4 hk hL hr 24 (by decide) (k0_off25_eq k) rfl) ?_
    refine Good.cons3 k.val 23 (k0_off24_eq k) (cPiece M4 M5 X4 hk hL hr 23 (by decide) (k0_off24_eq k) rfl) ?_
    refine Good.cons3 k.val 22 (k0_off23_eq k) (cPiece M4 M5 X4 hk hL hr 22 (by decide) (k0_off23_eq k) rfl) ?_
    refine Good.cons3 k.val 21 (k0_off22_eq k) (cPiece M4 M5 X4 hk hL hr 21 (by decide) (k0_off22_eq k) rfl) ?_
    refine Good.cons3 k.val 20 (k0_off21_eq k) (cPiece M4 M5 X4 hk hL hr 20 (by decide) (k0_off21_eq k) rfl) ?_
    refine Good.cons3 k.val 19 (k0_off20_eq k) (cPiece M4 M5 X4 hk hL hr 19 (by decide) (k0_off20_eq k) rfl) ?_
    refine Good.cons3 k.val 18 (k0_off19_eq k) (cPiece M4 M5 X4 hk hL hr 18 (by decide) (k0_off19_eq k) rfl) ?_
    refine Good.cons3 k.val 17 (k0_off18_eq k) (cPiece M4 M5 X4 hk hL hr 17 (by decide) (k0_off18_eq k) rfl) ?_
    refine Good.cons3 k.val 16 (k0_off17_eq k) (cPiece M4 M5 X4 hk hL hr 16 (by decide) (k0_off17_eq k) rfl) ?_
    refine Good.cons3 k.val 15 (k0_off16_eq k) (cPiece M4 M5 X4 hk hL hr 15 (by decide) (k0_off16_eq k) rfl) ?_
    refine Good.cons3 k.val 14 (k0_off15_eq k) (cPiece M4 M5 X4 hk hL hr 14 (by decide) (k0_off15_eq k) rfl) ?_
    refine Good.cons3 k.val 13 (k0_off14_eq k) (cPiece M4 M5 X4 hk hL hr 13 (by decide) (k0_off14_eq k) rfl) ?_
    refine Good.cons3 k.val 12 (k0_off13_eq k) (cPiece M4 M5 X4 hk hL hr 12 (by decide) (k0_off13_eq k) rfl) ?_
    refine Good.cons3 k.val 11 (k0_off12_eq k) (cPiece M4 M5 X4 hk hL hr 11 (by decide) (k0_off12_eq k) rfl) ?_
    refine Good.cons3 k.val 10 (k0_off11_eq k) (cPiece M4 M5 X4 hk hL hr 10 (by decide) (k0_off11_eq k) rfl) ?_
    refine Good.cons3 k.val 9 (k0_off10_eq k) (cPiece M4 M5 X4 hk hL hr 9 (by decide) (k0_off10_eq k) rfl) ?_
    refine Good.cons3 k.val 8 (k0_off9_eq k) (cPiece M4 M5 X4 hk hL hr 8 (by decide) (k0_off9_eq k) rfl) ?_
    refine Good.cons3 k.val 7 (k0_off8_eq k) (cPiece M4 M5 X4 hk hL hr 7 (by decide) (k0_off8_eq k) rfl) ?_
    refine Good.cons3 k.val 6 (k0_off7_eq k) (cPiece M4 M5 X4 hk hL hr 6 (by decide) (k0_off7_eq k) rfl) ?_
    refine Good.cons3 k.val 5 (k0_off6_eq k) (cPiece M4 M5 X4 hk hL hr 5 (by decide) (k0_off6_eq k) rfl) ?_
    refine Good.cons3 k.val 4 (k0_off5_eq k) (cPiece M4 M5 X4 hk hL hr 4 (by decide) (k0_off5_eq k) rfl) ?_
    refine Good.cons3 k.val 3 (k0_off4_eq k) (cPiece M4 M5 X4 hk hL hr 3 (by decide) (k0_off4_eq k) rfl) ?_
    refine Good.cons3 k.val 2 (k0_off3_eq k) (cPiece M4 M5 X4 hk hL hr 2 (by decide) (k0_off3_eq k) rfl) ?_
    refine Good.cons3 k.val 1 (k0_off2_eq k) (cPiece M4 M5 X4 hk hL hr 1 (by decide) (k0_off2_eq k) rfl) ?_
    refine Good.cons3 k.val 0 (k0_off1_eq k) (cPiece M4 M5 X4 hk hL hr 0 (by decide) (k0_off1_eq k) rfl) ?_
    exact Good.nil _ fun y h => absurd h.2.2 (by omega)
  · refine Good.cons2 k.val 27 (k0_off56_eq k) (aPiece M4 M5 X4 hk hL hr 27 (by decide) (k0_off28_eq k) (k0_off56_eq k) rfl) ?_
    refine Good.cons2 k.val 26 (k0_off55_eq k) (aPiece M4 M5 X4 hk hL hr 26 (by decide) (k0_off27_eq k) (k0_off55_eq k) rfl) ?_
    refine Good.cons2 k.val 25 (k0_off54_eq k) (aPiece M4 M5 X4 hk hL hr 25 (by decide) (k0_off26_eq k) (k0_off54_eq k) rfl) ?_
    refine Good.cons2 k.val 24 (k0_off53_eq k) (aPiece M4 M5 X4 hk hL hr 24 (by decide) (k0_off25_eq k) (k0_off53_eq k) rfl) ?_
    refine Good.cons2 k.val 23 (k0_off52_eq k) (aPiece M4 M5 X4 hk hL hr 23 (by decide) (k0_off24_eq k) (k0_off52_eq k) rfl) ?_
    refine Good.cons2 k.val 22 (k0_off51_eq k) (aPiece M4 M5 X4 hk hL hr 22 (by decide) (k0_off23_eq k) (k0_off51_eq k) rfl) ?_
    refine Good.cons2 k.val 21 (k0_off50_eq k) (aPiece M4 M5 X4 hk hL hr 21 (by decide) (k0_off22_eq k) (k0_off50_eq k) rfl) ?_
    refine Good.cons2 k.val 20 (k0_off49_eq k) (aPiece M4 M5 X4 hk hL hr 20 (by decide) (k0_off21_eq k) (k0_off49_eq k) rfl) ?_
    refine Good.cons2 k.val 19 (k0_off48_eq k) (aPiece M4 M5 X4 hk hL hr 19 (by decide) (k0_off20_eq k) (k0_off48_eq k) rfl) ?_
    refine Good.cons2 k.val 18 (k0_off47_eq k) (aPiece M4 M5 X4 hk hL hr 18 (by decide) (k0_off19_eq k) (k0_off47_eq k) rfl) ?_
    refine Good.cons2 k.val 17 (k0_off46_eq k) (aPiece M4 M5 X4 hk hL hr 17 (by decide) (k0_off18_eq k) (k0_off46_eq k) rfl) ?_
    refine Good.cons2 k.val 16 (k0_off45_eq k) (aPiece M4 M5 X4 hk hL hr 16 (by decide) (k0_off17_eq k) (k0_off45_eq k) rfl) ?_
    refine Good.cons2 k.val 15 (k0_off44_eq k) (aPiece M4 M5 X4 hk hL hr 15 (by decide) (k0_off16_eq k) (k0_off44_eq k) rfl) ?_
    refine Good.cons2 k.val 14 (k0_off43_eq k) (aPiece M4 M5 X4 hk hL hr 14 (by decide) (k0_off15_eq k) (k0_off43_eq k) rfl) ?_
    refine Good.cons2 k.val 13 (k0_off42_eq k) (aPiece M4 M5 X4 hk hL hr 13 (by decide) (k0_off14_eq k) (k0_off42_eq k) rfl) ?_
    refine Good.cons2 k.val 12 (k0_off41_eq k) (aPiece M4 M5 X4 hk hL hr 12 (by decide) (k0_off13_eq k) (k0_off41_eq k) rfl) ?_
    refine Good.cons2 k.val 11 (k0_off40_eq k) (aPiece M4 M5 X4 hk hL hr 11 (by decide) (k0_off12_eq k) (k0_off40_eq k) rfl) ?_
    refine Good.cons2 k.val 10 (k0_off39_eq k) (aPiece M4 M5 X4 hk hL hr 10 (by decide) (k0_off11_eq k) (k0_off39_eq k) rfl) ?_
    refine Good.cons2 k.val 9 (k0_off38_eq k) (aPiece M4 M5 X4 hk hL hr 9 (by decide) (k0_off10_eq k) (k0_off38_eq k) rfl) ?_
    refine Good.cons2 k.val 8 (k0_off37_eq k) (aPiece M4 M5 X4 hk hL hr 8 (by decide) (k0_off9_eq k) (k0_off37_eq k) rfl) ?_
    refine Good.cons2 k.val 7 (k0_off36_eq k) (aPiece M4 M5 X4 hk hL hr 7 (by decide) (k0_off8_eq k) (k0_off36_eq k) rfl) ?_
    refine Good.cons2 k.val 6 (k0_off35_eq k) (aPiece M4 M5 X4 hk hL hr 6 (by decide) (k0_off7_eq k) (k0_off35_eq k) rfl) ?_
    refine Good.cons2 k.val 5 (k0_off34_eq k) (aPiece M4 M5 X4 hk hL hr 5 (by decide) (k0_off6_eq k) (k0_off34_eq k) rfl) ?_
    refine Good.cons2 k.val 4 (k0_off33_eq k) (aPiece M4 M5 X4 hk hL hr 4 (by decide) (k0_off5_eq k) (k0_off33_eq k) rfl) ?_
    refine Good.cons2 k.val 3 (k0_off32_eq k) (aPiece M4 M5 X4 hk hL hr 3 (by decide) (k0_off4_eq k) (k0_off32_eq k) rfl) ?_
    refine Good.cons2 k.val 2 (k0_off31_eq k) (aPiece M4 M5 X4 hk hL hr 2 (by decide) (k0_off3_eq k) (k0_off31_eq k) rfl) ?_
    refine Good.cons2 k.val 1 (k0_off30_eq k) (aPiece M4 M5 X4 hk hL hr 1 (by decide) (k0_off2_eq k) (k0_off30_eq k) rfl) ?_
    refine Good.cons2 k.val 0 (k0_off29_eq k) (aPiece M4 M5 X4 hk hL hr 0 (by decide) (k0_off1_eq k) (k0_off29_eq k) rfl) ?_
    exact Good.nil _ fun y h => absurd h.2.2 (by omega)

end

end Cert.KernelIdeal.Own

end
-- ==== Proof.Run.lean ====
/- The whole body of the kernel at one grid point: what it leaves in its three output blocks. -/
module

public import proofs.«01_k».proof.Proof.Gen.KernelIdeal.Frame
public import proofs.«01_k».proof.Proof.Trip

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert

local notation "𝕄" => MT nD τ sig Unit (Elt Ideal) ℕ (UR sig nD τ) ℕ

/-- Rows below trip `n`. -/
def E3 (n : ℕ) (y : S1x512x3584.Idx) : Prop := (y 1).val < 32 * n
/-- Rows below trip `n`, the columns that are written. -/
def E2 (n : ℕ) (y : S512x128.Idx) : Prop := (y 0).val < 32 * n ∧ (y 1).val < 28

theorem E3_succ (n : ℕ) (y : S1x512x3584.Idx) (hy : E3 (n + 1) y) : D3 n 28 y ∨ E3 n y := by
  have h2 : (y 2).val < 3584 := (y 2).isLt
  unfold E3 at hy
  unfold D3 E3
  omega

theorem E2_succ (n : ℕ) (y : S512x128.Idx) (hy : E2 (n + 1) y) : D2 n 28 y ∨ E2 n y := by
  obtain ⟨h0, h1⟩ := hy
  unfold D2 E2
  omega

/-- What is read after stores that agree with one function. -/
theorem Good.read {S : Shape} {e : EltTy} {κ : Kind} {sp : Space} (M : Memref sig κ sp S e) {f : M.view.ty.Contents (Elt Ideal)} {L : List (View.Piece (Elt Ideal) S e)}
    {G : S.Idx → Elt Ideal e} {D : S.Idx → Prop} (h : Good L G D) (y : S.Idx) (hy : D y) :
    M.view.read (Elt Ideal) (M.view.writes (Elt Ideal) f L) y = G y :=
  View.read_writes_apply_of_pieces _ _ G L h.1 y (h.2 y hy)

/-- The stores of the first `n` trips. -/
theorem goodPb (𝒱 : Variants) (c : Dev nD) (bd : Option 𝒱.V) (i : grid0.Coords)
    (M2 : Memref sig .tc .vmem S1x512x3584 .bf16) (hM2 : M2.IsWhole) (M3 : Memref sig .tc .vmem S1x512x3584 .bf16) (hM3 : M3.IsWhole)
    (M4 : Memref sig .tc .vmem S1x3584 .f32) (hM4 : M4.IsWhole) (M5 : Memref sig .tc .vmem S1x512x3584 .bf16) (hM5 : M5.IsWhole)
    (M6 : Memref sig .tc .vmem S1x512x3584 .fp8e4m3) (hM6 : M6.IsWhole) (M7 : Memref sig .tc .vmem S1x28x512 .f32) (hM7 : M7.IsWhole)
    (M8 : Memref sig .tc .vmem S512x128 .f32) (hM8 : M8.IsWhole)
    (X2 : M2.view.ty.Contents (Elt Ideal)) (X3 : M3.view.ty.Contents (Elt Ideal)) (X4 : M4.view.ty.Contents (Elt Ideal))
    (f5 : M5.view.ty.Contents (Elt Ideal)) (f6 : M6.view.ty.Contents (Elt Ideal)) (f8 : M8.view.ty.Contents (Elt Ideal)) :
    ∀ n : ℕ, n ≤ 16 →
    Good (e := .bf16) (pb_k0_t1 (F := Ideal) 𝒱 c bd i M2 hM2 M3 hM3 M4 hM4 M5 hM5 M6 hM6 M7 hM7 M8 hM8 X2 X3 X4 f5 f6 f8 n).1
      (hArr (M2.view.read (Elt Ideal) X2) (M3.view.read (Elt Ideal) X3)) (E3 n)
    ∧ Good (e := .fp8e4m3) (pb_k0_t1 (F := Ideal) 𝒱 c bd i M2 hM2 M3 hM3 M4 hM4 M5 hM5 M6 hM6 M7 hM7 M8 hM8 X2 X3 X4 f5 f6 f8 n).2.1
      (codesArr (M2.view.read (Elt Ideal) X2) (M3.view.read (Elt Ideal) X3) (M4.view.read (Elt Ideal) X4)) (E3 n)
    ∧ Good (e := .f32) (pb_k0_t1 (F := Ideal) 𝒱 c bd i M2 hM2 M3 hM3 M4 hM4 M5 hM5 M6 hM6 M7 hM7 M8 hM8 X2 X3 X4 f5 f6 f8 n).2.2
      (amaxArr (M2.view.read (Elt Ideal) X2) (M3.view.read (Elt Ideal) X3) (M4.view.read (Elt Ideal) X4)) (E2 n) := by
  intro n
  induction n with
  | zero =>
    intro _
    rw [pb_k0_t1.eq_1]
    exact ⟨Good.nil _ fun y h => absurd h (by unfold E3; omega), Good.nil _ fun y h => absurd h (by unfold E3; omega),
      Good.nil _ fun y h => absurd h.1 (by omega)⟩
  | succ n ih =>
    intro hn
    obtain ⟨h1, h2, h3⟩ := ih (by omega)
    have hs := pb_k0_t1_succ (F := Ideal) 𝒱 c bd i M2 hM2 M3 hM3 M4 hM4 M5 hM5 M6 hM6 M7 hM7 M8 hM8 X2 X3 X4 f5 f6 f8 ⟨n, by rw [trips16]; omega⟩
    rw [hs]
    dsimp only
    have t := goodCA M2 M3 M4 M5 X2 X3 X4 ⟨n, by rw [trips16]; omega⟩ 𝒱 c bd i hM2 hM3 hM4 hM5 M6 hM6 M7 hM7 M8 hM8
    exact ⟨(t _ _ _).1.append h1 (E3_succ n), (t _ _ _).2.1.append h2 (E3_succ n), (t _ _ _).2.2.append h3 (E2_succ n)⟩

/-- The scales the kernel stores for one block: column `j` of the magnitudes, transposed. -/
def sclArr (x r : S1x512x3584.Idx → EReal) (g : S1x3584.Idx → EReal) : S1x28x512.Idx → EReal := fun y =>
  Spec.sclK (amaxAt x r g (y 2).val (y 1))

/-- Columns of the first `q` stores of scales. -/
def E7 (q : ℕ) (y : S1x28x512.Idx) : Prop := (y 2).val < 128 * q

theorem inb8 {q : ℕ} (hq : q < 4) : ∀ a, (![128 * q, 0] : Fin 2 → ℕ) a + S128x128.size a ≤ S512x128.size a := by
  intro a
  match a with
  | ⟨0, _⟩ => show 128 * q + 128 ≤ 512; omega
  | ⟨1, _⟩ => show 0 + 128 ≤ 128; omega

/-- A store of scales. -/
theorem sclPiece {x r : S1x512x3584.Idx → EReal} {g : S1x3584.Idx → EReal} (M8 : Memref sig .tc .vmem S512x128 .f32) (X8 : M8.view.ty.Contents (Elt Ideal))
    (hX : ∀ y, E2 16 y → M8.view.read (Elt Ideal) X8 y = amaxArr x r g y) (q : ℕ) (hq : q < 4) {off : Fin 3 → ℕ} (hoff : off = ![0, 0, 128 * q])
    {w : S1x28x128.Idx → Elt Ideal .f32}
    (hw : w = sclPay (F := Ideal) 8388608#32 (View.readAt (Elt Ideal) M8.view (Rect.unit (s := S512x128) ![128 * q, 0] S128x128.size (inb8 hq)).toLoadRect X8)) {inb} :
    ∀ y, w y = sclArr x r g ((Rect.unit (s := S1x28x512) off S1x28x128.size inb).emb y) := by
  intro y; rw [hw]
  refine ((congrArg _ (eq_ix3 y)).trans (sclPay_apply _ _ (y 0) (y 1) (y 2))).trans ?_
  subst hoff
  have h1 : (y 1).val < 28 := (y 1).isLt
  have h2 : (y 2).val < 128 := (y 2).isLt
  unfold sclArr Spec.sclK
  congr 1
  rw [View.readAt_apply, hX _ ⟨by show 128 * q + 1 * (y 2).val < 32 * 16; omega, by show 0 + 1 * (y 1).val < 28; omega⟩]
  unfold amaxArr
  refine (dif_pos (by show 0 + 1 * (y 1).val < 28; omega)).trans ?_
  exact congrArg (amaxAt x r g _) (Fin.ext rfl)

theorem Good.cons7 {L : List (View.Piece (Elt Ideal) S1x28x512 .f32)} {G : S1x28x512.Idx → Elt Ideal .f32} (q : ℕ)
    {off : Fin 3 → ℕ} (hoff : off = ![0, 0, 128 * q]) {inb} {w : S1x28x128.Idx → Elt Ideal .f32}
    (hp : ∀ x, w x = G ((Rect.unit (s := S1x28x512) off S1x28x128.size inb).emb x)) (h : Good L G (E7 q)) :
    Good (⟨Rect.unit (s := S1x28x512) off S1x28x128.size inb, w⟩ :: L) G (E7 (q + 1)) := by
  refine Good.cons _ hp (fun y hy => ?_) h
  have hy : (y 2).val < 128 * (q + 1) := hy
  by_cases hn : (y 2).val < 128 * q
  · exact Or.inl hn
  · right
    show y ∈ (Rect.unit (s := S1x28x512) off S1x28x128.size inb).set
    rw [Rect.mem_set_unit]; intro a
    subst hoff
    have h0 : (y 0).val < 1 := (y 0).isLt
    have h1 : (y 1).val < 28 := (y 1).isLt
    match a with
    | ⟨0, _⟩ => exact ⟨by show 0 ≤ (y 0).val; omega, by show (y 0).val < 0 + 1; omega⟩
    | ⟨1, _⟩ => exact ⟨by show 0 ≤ (y 1).val; omega, by show (y 1).val < 0 + 28; omega⟩
    | ⟨2, _⟩ => exact ⟨by show 128 * q ≤ (y 2).val; omega, by show (y 2).val < 128 * q + 128; omega⟩

set_option maxHeartbeats 1000000 in
/-- The body's triple. -/
theorem kernelRun (c : Dev nD) (i : grid0.Coords) (arg2 : Memref sig .tc .vmem S1x512x3584 .bf16) (harg2 : arg2.IsWhole) (arg3 : Memref sig .tc .vmem S1x512x3584 .bf16) (harg3 : arg3.IsWhole) (arg4 : Memref sig .tc .vmem S1x3584 .f32) (harg4 : arg4.IsWhole) (arg5 : Memref sig .tc .vmem S1x512x3584 .bf16) (harg5 : arg5.IsWhole) (arg6 : Memref sig .tc .vmem S1x512x3584 .fp8e4m3) (harg6 : arg6.IsWhole) (arg7 : Memref sig .tc .vmem S1x28x512 .f32) (harg7 : arg7.IsWhole) (arg8 : Memref sig .tc .vmem S512x128 .f32) (harg8 : arg8.IsWhole)
    (x0 : Vec Ideal S1x512x3584 .bf16) (x1 : Vec Ideal S1x512x3584 .bf16) (x2 : Vec Ideal S1x3584 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare (hArr x0 x1) ∗ owns (c : Thread nD τ) arg6 fullShare (codesArr x0 x1 x2) ∗ owns (c : Thread nD τ) arg7 fullShare (sclArr x0 x1 x2) ∗ (∃ d, owns (c : Thread nD τ) arg8 fullShare d)) -∗ K ⟨⟩))
          ⊢ wp frame (wpE (defs₀ (F := Ideal)) Variants.none c none) E (cc0_add_rmsnorm_fp8 i arg2 harg2 arg3 harg3 arg4 harg4 arg5 harg5 arg6 harg6 arg7 harg7 arg8 harg8) K := by
    intro E K
    simp only [cc0_add_rmsnorm_fp8_eq_skeleton]; unfold cc0_add_rmsnorm_fp8_skel
    simp only [k0_part43_eq_skeleton, k0_part44_eq_skeleton, k0_part45_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2
    have hg := goodPb Variants.none c none i arg2 harg2 arg3 harg3 arg4 harg4 arg5 harg5 arg6 harg6 arg7 harg7 arg8 harg8
      (harg2.unread (Val := Elt Ideal) x0) (harg3.unread (Val := Elt Ideal) x1) (harg4.unread (Val := Elt Ideal) x2) f3 f4 fs0 16 le_rfl
    rw [hf0, hf1, hf2] at hg
    obtain ⟨hg3, hg4, hg8⟩ := hg
    have hX := fun y hy => hg8.read arg8 (f := fs0) y hy
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      exact funext fun y => hg3.read arg5 y (y 1).isLt
    isplitl [H4]
    · iexists _; isplitr; swap; · iexact H4
      ipureintro
      exact funext fun y => hg4.read arg6 y (y 1).isLt
    isplitl [H5]
    · iexists _; isplitr; swap; · iexact H5
      ipureintro
      refine funext fun y => Good.read arg7 (G := sclArr x0 x1 x2) (D := E7 4) ?_ y (y 2).isLt
      refine Good.cons7 3 rfl (sclPiece arg8 _ hX 3 (by decide) rfl rfl) ?_
      refine Good.cons7 2 rfl (sclPiece arg8 _ hX 2 (by decide) rfl rfl) ?_
      refine Good.cons7 1 rfl (sclPiece arg8 _ hX 1 (by decide) rfl rfl) ?_
      refine Good.cons7 0 rfl (sclPiece arg8 _ hX 0 (by decide) rfl rfl) ?_
      exact Good.nil _ fun y h => absurd h (by unfold E7; omega)
    iexists _, _; isplitr; swap; · iexact HS0
    ipureintro; rfl

end Cert.KernelIdeal.Own

end
-- ==== Proof.KernelValue.lean ====
/- The kernel's run with its results named: each grid point leaves the closed forms of `Run` in its output blocks, and
   the blocks tile the arrays. -/
module

public import proofs.«01_k».proof.Proof.Run
public import Idealize.ShloMosaic.Lib.Pipeline.ValueKit.Geometry
public import Idealize.ShloMosaic.Lib.Claim

@[expose] public section

set_option maxRecDepth 16384

noncomputable section

namespace Cert.Spec

open Idealize.ShloMosaic

/-! ## The results over the whole arrays -/

abbrev SX : Shape := ⟨3, ![41, 1024, 3584]⟩
abbrev SG : Shape := ⟨1, ![3584]⟩

/-- The sum. -/
def hG (X R : SX.Idx → EReal) : SX.Idx → EReal := fun y => X y + R y
/-- A row as 28 blocks of 128, and the weights. -/
def rowG (h : SX.Idx → EReal) (b : Fin 41) (s : Fin 1024) (j : Fin 28) (l : Fin 128) : EReal :=
  h (ix3 b s (⟨128 * j.val + l.val, by omega⟩ : Fin 3584))
def wG (g : SG.Idx → EReal) (j : Fin 28) (l : Fin 128) : EReal := g (ix1 (⟨128 * j.val + l.val, by omega⟩ : Fin 3584))
/-- The normalised values, and the largest magnitude of a block. -/
def yG (X R : SX.Idx → EReal) (g : SG.Idx → EReal) (b : Fin 41) (s : Fin 1024) : Fin 28 → Fin 128 → EReal :=
  y (rowG (hG X R) b s) (wG g)
def amaxG (X R : SX.Idx → EReal) (g : SG.Idx → EReal) (b : Fin 41) (s : Fin 1024) (j : Fin 28) : EReal :=
  amaxOf (yG X R g b s j)

end Cert.Spec

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert

local notation "𝕄" => MT nD τ sig Unit (Elt Ideal) ℕ (UR sig nD τ) ℕ

variable (m : (ℓ : Loc nD τ sig) → Buf (Elt Ideal) ℓ) (ρ : Dev nD → PrngReg)

/-- The staging memrefs of a point, as the pipeline passes them, and the scratch. -/
abbrev ms0 (t : Fin cfg0.N) : Memref sig .tc .vmem S1x512x3584 .bf16 := win0_0.stage (cfg0.slots t 0)
abbrev ms1 (t : Fin cfg0.N) : Memref sig .tc .vmem S1x512x3584 .bf16 := win0_1.stage (cfg0.slots t 1)
abbrev ms2 (t : Fin cfg0.N) : Memref sig .tc .vmem S1x3584 .f32 := win0_2.stage (cfg0.slots t 2)
abbrev ms3 (t : Fin cfg0.N) : Memref sig .tc .vmem S1x512x3584 .bf16 := win0_3.stage (cfg0.slots t 3)
abbrev ms4 (t : Fin cfg0.N) : Memref sig .tc .vmem S1x512x3584 .fp8e4m3 := win0_4.stage (cfg0.slots t 4)
abbrev ms5 (t : Fin cfg0.N) : Memref sig .tc .vmem S1x28x512 .f32 := win0_5.stage (cfg0.slots t 5)
abbrev scM : Memref sig .tc .vmem S512x128 .f32 := Memref.whole cc0_scratch0

/-- The region's invariant: the scratch at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The proof data: the inputs' buffers hold their blocks, the outputs' the closed forms of those blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hArr (iblk m c 0 t) (iblk m c 1 t)
    | ⟨4, _⟩ => codesArr (iblk m c 0 t) (iblk m c 1 t) (iblk m c 2 t)
    | ⟨5, _⟩ => sclArr (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = hArr (iblk m c 0 t) (iblk m c 1 t) := by dsimp only [dats]
theorem after_4 (c : Dev nD) (t : Fin cfg0.N) : (dats m 0 c).after 4 t = codesArr (iblk m c 0 t) (iblk m c 1 t) (iblk m c 2 t) := by dsimp only [dats]
theorem after_5 (c : Dev nD) (t : Fin cfg0.N) : (dats m 0 c).after 5 t = sclArr (iblk m c 0 t) (iblk m c 1 t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, PhiA_eq]
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  iintro ⟨H0, H1, H2, H3, H4, H5, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: the arrays end at what the points wrote back, and every semaphore counter at zero. -/
theorem run_quiescent : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The blocks at coordinates -/

theorem V_main_v1 (c : Dev nD) (j : Fin 3584) : V m c main_v1 (ix2 (0 : Fin 1) j) = m ((c : Thread nD τ).loc main_arg2) (ix1 j) := by
  have h : V m c main_v1 = shapeCast S1x3584 (extf (F := Ideal) .f32 (m ((c : Thread nD τ).loc main_arg2)) bitsLt_bf16_f32) shapeCasts_S3584_S1x3584 := by
    show StableHlo.after hostOps0 _ (Proc.devRef .tc main_v1) = _
    after_results
    rfl
  rw [h]
  pointwise

end Cert.KernelIdeal.Own

end
-- ==== Proof.KernelFinal.lean ====
/- The kernel's three results as functions of its arguments. -/
module

public import proofs.«01_k».proof.Proof.KernelValue

@[expose] public section

set_option maxRecDepth 16384

noncomputable section

namespace Cert.KernelIdeal.Own

open Idealize.ShloMosaic Idealize.ShloMosaic.TcCoe Idealize.ShloMosaic.Tactic
open Idealize.SL.Sem
open Idealize.ShloMosaic.Pipeline (Dat Cfg Window)
open Cert.KernelIdeal Cert.KernelIdeal.Gen Cert

variable (m : (ℓ : Loc nD τ sig) → Buf (Elt Ideal) ℓ) (ρ : Dev nD → PrngReg)

/-- The arguments of device `c`. -/
abbrev aX (c : Dev nD) : Spec.SX.Idx → EReal := m ((c : Thread nD τ).loc main_arg0)
abbrev aR (c : Dev nD) : Spec.SX.Idx → EReal := m ((c : Thread nD τ).loc main_arg1)
abbrev aG (c : Dev nD) : Spec.SG.Idx → EReal := m ((c : Thread nD τ).loc main_arg2)

/-- The block indices over the grid. -/
theorem e0 : ∀ t : Fin cfg0.N, win0_0.index t = ![(grid0.coords t 0).val, (grid0.coords t 1).val, 0] := (by decide +kernel : ∀ t : Fin grid0.N, _)
theorem e1 : ∀ t : Fin cfg0.N, win0_1.index t = ![(grid0.coords t 0).val, (grid0.coords t 1).val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![(grid0.coords t 0).val, (grid0.coords t 1).val, 0] := (by decide +kernel : ∀ t : Fin grid0.N, _)
theorem e4 : ∀ t : Fin cfg0.N, win0_4.index t = ![(grid0.coords t 0).val, (grid0.coords t 1).val, 0] := (by decide +kernel : ∀ t : Fin grid0.N, _)
theorem e5 : ∀ t : Fin cfg0.N, win0_5.index t = ![(grid0.coords t 0).val, 0, (grid0.coords t 1).val] := (by decide +kernel : ∀ t : Fin grid0.N, _)

/-- A point's row of the array, by the row of the block. -/
def rowNo (t : Fin cfg0.N) (i : Fin 512) : Fin 1024 := ⟨512 * (grid0.coords t 1).val + i.val, by
  have h : (grid0.coords t 1).val < 2 := (grid0.coords t 1).isLt
  omega⟩
def batNo (t : Fin cfg0.N) : Fin 41 := ⟨(grid0.coords t 0).val, (grid0.coords t 0).isLt⟩

/-- The input blocks. -/
theorem iblk_0 (c : Dev nD) (t : Fin cfg0.N) (i : Fin 512) (j : Fin 3584) :
    iblk m c 0 t (ix3 (0 : Fin 1) i j) = aX m c (ix3 (batNo t) (rowNo t i) j) := by
  show V m c main_arg0 ((win0_0.blk t).view.emb (ix3 (0 : Fin 1) i j)) = _
  rw [V_main_arg0]
  refine congrArg _ (funext fun a => Fin.ext ?_)
  match a with
  | ⟨0, _⟩ => show win0_0.index t (0 : Fin 3) * 1 + 1 * 0 = _; rw [e0]; show (grid0.coords t 0).val * 1 + 1 * 0 = (grid0.coords t 0).val; omega
  | ⟨1, _⟩ => show win0_0.index t (1 : Fin 3) * 512 + 1 * i.val = _; rw [e0]; show (grid0.coords t 1).val * 512 + 1 * i.val = 512 * (grid0.coords t 1).val + i.val; omega
  | ⟨2, _⟩ => show win0_0.index t (2 : Fin 3) * 3584 + 1 * j.val = _; rw [e0]; show 0 * 3584 + 1 * j.val = j.val; omega
theorem iblk_1 (c : Dev nD) (t : Fin cfg0.N) (i : Fin 512) (j : Fin 3584) :
    iblk m c 1 t (ix3 (0 : Fin 1) i j) = aR m c (ix3 (batNo t) (rowNo t i) j) := by
  show V m c main_arg1 ((win0_1.blk t).view.emb (ix3 (0 : Fin 1) i j)) = _
  rw [V_main_arg1]
  refine congrArg _ (funext fun a => Fin.ext ?_)
  match a with
  | ⟨0, _⟩ => show win0_1.index t (0 : Fin 3) * 1 + 1 * 0 = _; rw [e1]; show (grid0.coords t 0).val * 1 + 1 * 0 = (grid0.coords t 0).val; omega
  | ⟨1, _⟩ => show win0_1.index t (1 : Fin 3) * 512 + 1 * i.val = _; rw [e1]; show (grid0.coords t 1).val * 512 + 1 * i.val = 512 * (grid0.coords t 1).val + i.val; omega
  | ⟨2, _⟩ => show win0_1.index t (2 : Fin 3) * 3584 + 1 * j.val = _; rw [e1]; show 0 * 3584 + 1 * j.val = j.val; omega
theorem iblk_2 (c : Dev nD) (t : Fin cfg0.N) (j : Fin 3584) :
    iblk m c 2 t (ix2 (0 : Fin 1) j) = aG m c (ix1 j) := by
  refine Eq.trans ?_ (V_main_v1 m c j)
  show V m c main_v1 ((win0_2.blk t).view.emb (ix2 (0 : Fin 1) j)) = _
  refine congrArg _ (funext fun a => Fin.ext ?_)
  match a with
  | ⟨0, _⟩ => show win0_2.index t (0 : Fin 2) * 1 + 1 * 0 = _; rw [e2]; rfl
  | ⟨1, _⟩ => show win0_2.index t (1 : Fin 2) * 3584 + 1 * j.val = _; rw [e2]; show 0 * 3584 + 1 * j.val = j.val; omega

/-- A row of a block's sum is a row of the sum; the weights are the weights. -/
theorem rowOf_blk (c : Dev nD) (t : Fin cfg0.N) (i : Fin 512) :
    rowOf (hArr (iblk m c 0 t) (iblk m c 1 t)) i.val = Spec.rowG (Spec.hG (aX m c) (aR m c)) (batNo t) (rowNo t i) := by
  funext j l
  refine (at3_eq (hArr (iblk m c 0 t) (iblk m c 1 t)) (ix3 (0 : Fin 1) i (⟨128 * j.val + l.val, by omega⟩ : Fin 3584)) rfl rfl).trans ?_
  exact congrArg₂ (· + ·) (iblk_0 m c t i _) (iblk_1 m c t i _)
theorem wOf_blk (c : Dev nD) (t : Fin cfg0.N) : wOf (iblk m c 2 t) = Spec.wG (aG m c) := by
  funext j l
  exact (at2_eq (iblk m c 2 t) (ix2 (0 : Fin 1) (⟨128 * j.val + l.val, by omega⟩ : Fin 3584)) rfl).trans (iblk_2 m c t _)
theorem amax_blk (c : Dev nD) (t : Fin cfg0.N) (i : Fin 512) (j : Fin 28) :
    amaxAt (iblk m c 0 t) (iblk m c 1 t) (iblk m c 2 t) i.val j = Spec.amaxG (aX m c) (aR m c) (aG m c) (batNo t) (rowNo t i) j := by
  unfold amaxAt Spec.amaxG Spec.yG
  rw [rowOf_blk, wOf_blk]

/-! ## The final arrays -/

/-- The codes and the scales the kernel leaves. -/
def codesK (X R : Spec.SX.Idx → EReal) (g : Spec.SG.Idx → EReal) : Spec.SX.Idx → EReal := fun y =>
  Spec.clip (Spec.yG X R g (y 0) (y 1) (blkNo (y 2)) (laneNo (y 2)) * Spec.invK (Spec.amaxG X R g (y 0) (y 1) (blkNo (y 2))))
def sclT (X R : Spec.SX.Idx → EReal) (g : Spec.SG.Idx → EReal) : S41x28x1024.Idx → EReal := fun y =>
  Spec.sclK (Spec.amaxG X R g (y 0) (y 2) (y 1))

/-- The sum of a block at the array's coordinates. -/
theorem h_blk (c : Dev nD) (t : Fin cfg0.N) (i : Fin 512) (j : Fin 3584) :
    hArr (iblk m c 0 t) (iblk m c 1 t) (ix3 (0 : Fin 1) i j) = Spec.hG (aX m c) (aR m c) (ix3 (batNo t) (rowNo t i) j) := by
  have h0 := iblk_0 m c t i j
  have h1 := iblk_1 m c t i j
  exact congrArg₂ (fun a b : EReal => a + b) h0 h1
/-- The codes of a block, the scales of a block, at the array's coordinates. -/
theorem codes_blk (c : Dev nD) (t : Fin cfg0.N) (i : Fin 512) (j : Fin 3584) :
    codesArr (iblk m c 0 t) (iblk m c 1 t) (iblk m c 2 t) (ix3 (0 : Fin 1) i j)
      = codesK (aX m c) (aR m c) (aG m c) (ix3 (batNo t) (rowNo t i) j) := by
  show Spec.clip (Spec.y (rowOf (hArr (iblk m c 0 t) (iblk m c 1 t)) i.val) (wOf (iblk m c 2 t)) (blkNo j) (laneNo j)
      * Spec.invK (amaxAt (iblk m c 0 t) (iblk m c 1 t) (iblk m c 2 t) i.val (blkNo j))) = _
  rw [rowOf_blk, wOf_blk, amax_blk]
  rfl
theorem scl_blk (c : Dev nD) (t : Fin cfg0.N) (j : Fin 28) (i : Fin 512) :
    sclArr (iblk m c 0 t) (iblk m c 1 t) (iblk m c 2 t) (ix3 (0 : Fin 1) j i)
      = sclT (aX m c) (aR m c) (aG m c) (ix3 (batNo t) j (rowNo t i)) := by
  show Spec.sclK (amaxAt (iblk m c 0 t) (iblk m c 1 t) (iblk m c 2 t) i.val j) = _
  rw [amax_blk]
  rfl

/-- An index of a block, by its last two coordinates. -/
theorem blk_idx {a b : ℕ} (y : Shape.Idx ⟨3, ![1, a, b]⟩) : y = ix3 (0 : Fin 1) (y 1) (y 2) := by
  funext k
  match k with
  | ⟨0, _⟩ => exact Subsingleton.elim (α := Fin 1) _ _
  | ⟨1, _⟩ => rfl
  | ⟨2, _⟩ => rfl

theorem blk_ind {a b : ℕ} {P : Shape.Idx ⟨3, ![1, a, b]⟩ → Prop} (h : ∀ (i : Fin a) (j : Fin b), P (ix3 (0 : Fin 1) i j))
    (y : Shape.Idx ⟨3, ![1, a, b]⟩) : P y := by
  have := h (y 1) (y 2)
  have e : y = ix3 (0 : Fin 1) (y 1) (y 2) := blk_idx y
  exact e.symm ▸ this

/-- Where a point's output blocks lie. -/
theorem emb_3 (t : Fin cfg0.N) (i : Fin 512) (j : Fin 3584) :
    (win0_3.blk t).view.emb (ix3 (0 : Fin 1) i j) = ix3 (batNo t) (rowNo t i) j := by
  funext a; apply Fin.ext
  match a with
  | ⟨0, _⟩ => show win0_3.index t (0 : Fin 3) * 1 + 1 * 0 = _; rw [e3]; show (grid0.coords t 0).val * 1 + 1 * 0 = (grid0.coords t 0).val; omega
  | ⟨1, _⟩ => show win0_3.index t (1 : Fin 3) * 512 + 1 * i.val = _; rw [e3]; show (grid0.coords t 1).val * 512 + 1 * i.val = 512 * (grid0.coords t 1).val + i.val; omega
  | ⟨2, _⟩ => show win0_3.index t (2 : Fin 3) * 3584 + 1 * j.val = _; rw [e3]; show 0 * 3584 + 1 * j.val = j.val; omega
theorem emb_4 (t : Fin cfg0.N) (i : Fin 512) (j : Fin 3584) :
    (win0_4.blk t).view.emb (ix3 (0 : Fin 1) i j) = ix3 (batNo t) (rowNo t i) j := by
  funext a; apply Fin.ext
  match a with
  | ⟨0, _⟩ => show win0_4.index t (0 : Fin 3) * 1 + 1 * 0 = _; rw [e4]; show (grid0.coords t 0).val * 1 + 1 * 0 = (grid0.coords t 0).val; omega
  | ⟨1, _⟩ => show win0_4.index t (1 : Fin 3) * 512 + 1 * i.val = _; rw [e4]; show (grid0.coords t 1).val * 512 + 1 * i.val = 512 * (grid0.coords t 1).val + i.val; omega
  | ⟨2, _⟩ => show win0_4.index t (2 : Fin 3) * 3584 + 1 * j.val = _; rw [e4]; show 0 * 3584 + 1 * j.val = j.val; omega
theorem emb_5 (t : Fin cfg0.N) (j : Fin 28) (i : Fin 512) :
    (win0_5.blk t).view.emb (ix3 (0 : Fin 1) j i) = ix3 (batNo t) j (rowNo t i) := by
  funext a; apply Fin.ext
  match a with
  | ⟨0, _⟩ => show win0_5.index t (0 : Fin 3) * 1 + 1 * 0 = _; rw [e5]; show (grid0.coords t 0).val * 1 + 1 * 0 = (grid0.coords t 0).val; omega
  | ⟨1, _⟩ => show win0_5.index t (1 : Fin 3) * 28 + 1 * j.val = _; rw [e5]; show 0 * 28 + 1 * j.val = j.val; omega
  | ⟨2, _⟩ => show win0_5.index t (2 : Fin 3) * 512 + 1 * i.val = _; rw [e5]; show (grid0.coords t 1).val * 512 + 1 * i.val = 512 * (grid0.coords t 1).val + i.val; omega

theorem final_3 (c : Dev nD) : (dats m 0 c).arrAt 3 cfg0.N = Spec.hG (aX m c) (aR m c) := by
  refine (dats m 0 c).arrAt_eq_of_covers 3 _ (by decide +kernel) fun t hf y => ?_
  change S1x512x3584.Idx at y
  show (dats m 0 c).after 3 t y = Spec.hG (aX m c) (aR m c) ((win0_3.blk t).view.emb y)
  rw [after_3]
  have key : ∀ (i : Fin 512) (j : Fin 3584), hArr (iblk m c 0 t) (iblk m c 1 t) (ix3 (0 : Fin 1) i j)
      = Spec.hG (aX m c) (aR m c) ((win0_3.blk t).view.emb (ix3 (0 : Fin 1) i j)) := fun i j =>
    (h_blk m c t i j).trans (congrArg _ (emb_3 t i j).symm)
  exact blk_ind (P := fun y => hArr (iblk m c 0 t) (iblk m c 1 t) y = Spec.hG (aX m c) (aR m c) ((win0_3.blk t).view.emb y)) key y
theorem final_4 (c : Dev nD) : (dats m 0 c).arrAt 4 cfg0.N = codesK (aX m c) (aR m c) (aG m c) := by
  refine (dats m 0 c).arrAt_eq_of_covers 4 _ (by decide +kernel) fun t hf y => ?_
  change S1x512x3584.Idx at y
  show (dats m 0 c).after 4 t y = codesK (aX m c) (aR m c) (aG m c) ((win0_4.blk t).view.emb y)
  rw [after_4]
  have key : ∀ (i : Fin 512) (j : Fin 3584), codesArr (iblk m c 0 t) (iblk m c 1 t) (iblk m c 2 t) (ix3 (0 : Fin 1) i j)
      = codesK (aX m c) (aR m c) (aG m c) ((win0_4.blk t).view.emb (ix3 (0 : Fin 1) i j)) := fun i j =>
    (codes_blk m c t i j).trans (congrArg _ (emb_4 t i j).symm)
  exact blk_ind (P := fun y => codesArr (iblk m c 0 t) (iblk m c 1 t) (iblk m c 2 t) y = codesK (aX m c) (aR m c) (aG m c) ((win0_4.blk t).view.emb y)) key y
theorem final_5 (c : Dev nD) : (dats m 0 c).arrAt 5 cfg0.N = sclT (aX m c) (aR m c) (aG m c) := by
  refine (dats m 0 c).arrAt_eq_of_covers 5 _ (by decide +kernel) fun t hf y => ?_
  change S1x28x512.Idx at y
  show (dats m 0 c).after 5 t y = sclT (aX m c) (aR m c) (aG m c) ((win0_5.blk t).view.emb y)
  rw [after_5]
  have key : ∀ (j : Fin 28) (i : Fin 512), sclArr (iblk m c 0 t) (iblk m c 1 t) (iblk m c 2 t) (ix3 (0 : Fin 1) j i)
      = sclT (aX m c) (aR m c) (aG m c) ((win0_5.blk t).view.emb (ix3 (0 : Fin 1) j i)) := fun j i =>
    (scl_blk m c t j i).trans (congrArg _ (emb_5 t j i).symm)
  exact blk_ind (P := fun y => sclArr (iblk m c 0 t) (iblk m c 1 t) (iblk m c 2 t) y = sclT (aX m c) (aR m c) (aG m c) ((win0_5.blk t).view.emb y)) key y

end Cert.KernelIdeal.Own

end
-- ==== Proof.KernelResults.lean ====
/- The kernel's run at the ideal instance: its three results as functions of its arguments, its arguments unchanged, the
   counters at zero. -/
module

public import proofs.«01_k».proof.Proof.KernelFinal

@[expose] public section

set_option maxRecDepth 16384

noncomputable section

namespace Cert.KernelIdeal.Own

open Idealize.ShloMosaic Idealize.ShloMosaic.TcCoe Idealize.ShloMosaic.Tactic
open Idealize.SL.Sem
open Cert.KernelIdeal Cert.KernelIdeal.Gen Cert

variable (m : (ℓ : Loc nD τ sig) → Buf (Elt Ideal) ℓ) (ρ : Dev nD → PrngReg)

/-- The scales the kernel returns. -/
def sclG (X R : Spec.SX.Idx → EReal) (g : Spec.SG.Idx → EReal) : S41x1024x28.Idx → EReal := fun y =>
  Spec.sclK (Spec.amaxG X R g (y 0) (y 1) (y 2))

/-- Transposed after the call. -/
theorem tail_v3 (c : Dev nD) : Pipeline.afterTail₀ cfgs (dats m) 0 (V0 m) [hostOps1] c main_v3 = sclG (aX m c) (aR m c) (aG m c) := by
  unfold Pipeline.afterTail₀
  have h : StableHlo.after [hostOps1].flatten (Pipeline.withArrays (cfgs 0).spec c (V0 m c) fun w => ((dats m) 0 c).arrAt w (cfgs 0).N) (Proc.devRef .tc main_v3)
      = transpose S41x1024x28 [0, 2, 1] (sclT (aX m c) (aR m c) (aG m c)) transposes_S41x28x1024_S41x1024x28_0_2_1 := by
    rw [show sclT (aX m c) (aR m c) (aG m c) = Pipeline.withArrays (cfgs 0).spec c (V0 m c) (fun w => ((dats m) 0 c).arrAt w (cfgs 0).N) (Proc.devRef .tc main_v2_2) from
      ((Pipeline.withArrays_arr spec0 launch0.win.arr_inj c (V0 m c) (fun w => ((dats m) 0 c).arrAt w (cfgs 0).N) 5).trans (final_5 m c)).symm]
    after_results
    rfl
  rw [h]
  funext y
  rw [show y = ix3 (y 0) (y 1) (y 2) from eq_ix3 y]
  rfl

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) ((θ_run defs _ _).mono (fun _ h => h.1) (run_quiescent m ρ))

/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

/-- The results. -/
theorem results : θ_run defs (onTc (τ := τ) (main (F := Ideal))) ⟨m, fun _ => 0, ρ⟩ (fun r => (∀ c : Dev nD,
      r.2.mem ((c.tc : Thread nD τ).loc main_v2_0) = Spec.hG (aX m c) (aR m c)
      ∧ r.2.mem ((c.tc : Thread nD τ).loc main_v2_1) = codesK (aX m c) (aR m c) (aG m c)
      ∧ r.2.mem ((c.tc : Thread nD τ).loc main_v3) = sclG (aX m c) (aR m c) (aG m c))
      ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_and ((θ_run defs _ _).mono (fun _ h c =>
    ⟨((h.1 c).1 3).trans (final_3 m c), ((h.1 c).1 4).trans (final_4 m c),
      ((h.1 c).2 main_v3 (Pipeline.mem_restRefs_of main_v3 (by decide) (by decide))).trans (tail_v3 m c)⟩) (run_quiescent m ρ)) (unchanged m ρ)

end Cert.KernelIdeal.Own

end
-- ==== Proof.Ref.lean ====
/- The reference's three results at an index, as the mathematics of `Spec`. -/
module

public import proofs.«01_k».proof.Proof.Gen.ReferenceIdeal.Run
public import proofs.«01_k».proof.Proof.KernelFinal

@[expose] public section

set_option maxRecDepth 16384

noncomputable section

namespace Cert.ReferenceIdeal.Own

open Idealize.ShloMosaic Idealize.ShloMosaic.TcCoe Idealize.ShloMosaic.Tactic
open Cert.ReferenceIdeal Cert.ReferenceIdeal.Gen Cert
open Cert.KernelIdeal.Own (blkNo laneNo)

open Idealize.SL.Sem

variable (X R : Spec.SX.Idx → EReal) (g : Spec.SG.Idx → EReal)

/-! ## The values on the way -/

/-- The sum. -/
def sumV : FVec Ideal S41x1024x3584 .bf16 :=
  truncf .bf16 (addf (extf (F := Ideal) .f32 (X : FVec Ideal S41x1024x3584 .bf16) bitsLt_bf16_f32)
    (extf .f32 (R : FVec Ideal S41x1024x3584 .bf16) bitsLt_bf16_f32)) bitsLt_bf16_f32

/-- The sum, in blocks. -/
def hV : FVec Ideal S41x1024x28x128 .f32 :=
  extf .f32 (shapeCast S41x1024x28x128 (sumV X R) shapeCasts_S41x1024x3584_S41x1024x28x128) bitsLt_bf16_f32

/-- The normalised values. -/
def yV : FVec Ideal S41x1024x28x128 .f32 :=
  mulf (mulf (hV X R) (broadcastInDim S41x1024x28x128 ![0, 1, 2, 3] bcast_S41x1024x1x1_S41x1024x28x128_0_1_2_3
      (Host.rsqrt (addf (Host.divf (broadcastInDim S41x1024x1x1 ![0, 1] bcast_S41x1024_S41x1024x1x1_0_1
          (Host.reduceAdd (mulf (hV X R) (hV X R)) (constant S_ .f32 0x00000000#32) reducesTo_S41x1024x28x128_S41x1024_d2_3 h_S_))
          (broadcastInDim S41x1024x1x1 ![] bcast_S_S41x1024x1x1 (constant S_ .f32 0x45600000#32)))
        (broadcastInDim S41x1024x1x1 ![] bcast_S_S41x1024x1x1 (constant S_ .f32 0x358637BD#32))))))
    (broadcastInDim S41x1024x28x128 ![0, 1, 2, 3] bcast_S1x1x28x128_S41x1024x28x128_0_1_2_3
      (shapeCast S1x1x28x128 (extf (F := Ideal) .f32 (g : FVec Ideal S3584 .bf16) bitsLt_bf16_f32) shapeCasts_S3584_S1x1x28x128))

/-- The largest magnitudes. -/
def amaxV : FVec Ideal S41x1024x28 .f32 :=
  Host.reduce FloatOps.maximumf (Host.absf (yV X R g)) (constant S_ .f32 0xFF800000#32) reducesTo_S41x1024x28x128_S41x1024x28_d3 h_S_

/-- A constant over the blocks. -/
def cst (w : BitVec 32) : FVec Ideal S41x1024x28 .f32 := broadcastInDim S41x1024x28 ![] bcast_S_S41x1024x28 (constant S_ .f32 w)

/-- The exponent from the largest magnitudes. -/
def expV (v : FVec Ideal S41x1024x28 .f32) : FVec Ideal S41x1024x28 .f32 :=
  select (cmpf .oeq v (cst 0x00000000#32)) (broadcastInDim S41x1024x28 ![] bcast_S_S41x1024x28 (id (constant S_ .f32 0x00000000#32)))
    (addf (Host.floor (Host.divf (Host.log (mulf v (cst 0x3B124925#32)))
        (broadcastInDim S41x1024x28 ![] bcast_S_S41x1024x28 (Host.log (constant S_ .f32 0x40000000#32)))))
      (cst 0x3F800000#32))

/-- The scale from the exponent. -/
def sclV (e : FVec Ideal S41x1024x28 .f32) : FVec Ideal S41x1024x28 .f32 := Host.powf (cst 0x40000000#32) e

/-- The inverse scale from the exponent, over the block. -/
def invV (e : FVec Ideal S41x1024x28 .f32) : FVec Ideal S41x1024x28x128 .f32 :=
  broadcastInDim S41x1024x28x128 ![0, 1, 2, 3] bcast_S41x1024x28x1_S41x1024x28x128_0_1_2_3
    (broadcastInDim S41x1024x28x1 ![0, 1, 2] bcast_S41x1024x28_S41x1024x28x1_0_1_2 (Host.powf (cst 0x40000000#32) (Host.negf e)))

/-- The codes from the normalised values and the inverse scale. -/
def codesV (Y Z : FVec Ideal S41x1024x28x128 .f32) : FVec Ideal S41x1024x3584 .fp8e4m3 :=
  shapeCast S41x1024x3584 (Host.convertf .fp8e4m3
    (minimumf (broadcastInDim S41x1024x28x128 ![] bcast_S_S41x1024x28x128 (id (constant S_ .f32 0x43E00000#32)))
      (maximumf (broadcastInDim S41x1024x28x128 ![] bcast_S_S41x1024x28x128 (id (constant S_ .f32 0xC3E00000#32))) (mulf Y Z))))
    shapeCasts_S41x1024x28x128_S41x1024x3584

/-! ## Their values at an index -/

theorem sumV_eq : sumV X R = Spec.hG X R := rfl

theorem yV_apply (b : Fin 41) (s : Fin 1024) (j : Fin 28) (l : Fin 128) : yV X R g (ix4 b s j l) = Spec.yG X R g b s j l := by
  unfold yV hV sumV Spec.yG Spec.y Spec.rs Spec.ms Spec.rowG Spec.wG Spec.hG
  pointwise
  simp only [Nat.mul_comm _ 128]

theorem amaxV_apply (b : Fin 41) (s : Fin 1024) (j : Fin 28) : amaxV X R g (ix3 b s j) = Spec.amaxG X R g b s j := by
  have hy := yV_apply X R g b s j
  unfold amaxV
  generalize yV X R g = Y at hy ⊢
  unfold Spec.amaxG Spec.amaxOf
  simp only [← hy]
  pointwise
  rfl

theorem expV_apply (v : FVec Ideal S41x1024x28 .f32) (b : Fin 41) (s : Fin 1024) (j : Fin 28) :
    expV v (ix3 b s j) = Spec.eR (v (ix3 b s j)) := by
  unfold expV cst
  unfold Spec.eR Spec.nOf Spec.tOf
  rw [← Spec.log_two]
  simp only [id_eq]
  pointwise

/-- The exponent at an index. -/
theorem exp_apply (b : Fin 41) (s : Fin 1024) (j : Fin 28) :
    expV (amaxV X R g) (ix3 b s j) = Spec.eR (Spec.amaxG X R g b s j) :=
  (expV_apply _ b s j).trans (congrArg Spec.eR (amaxV_apply X R g b s j))

theorem sclV_apply (e : FVec Ideal S41x1024x28 .f32) (b : Fin 41) (s : Fin 1024) (j : Fin 28) :
    sclV e (ix3 b s j) = Ideal.exp2 (e (ix3 b s j)) := by
  unfold sclV cst
  rw [← Spec.pow_two]
  pointwise

theorem invV_apply (e : FVec Ideal S41x1024x28 .f32) (b : Fin 41) (s : Fin 1024) (j : Fin 28) (l : Fin 128) :
    invV e (ix4 b s j l) = Ideal.exp2 (-e (ix3 b s j)) := by
  unfold invV cst
  rw [← Spec.pow_two]
  pointwise

theorem codesV_apply (Y Z : FVec Ideal S41x1024x28x128 .f32) (b : Fin 41) (s : Fin 1024) (c : Fin 3584) :
    codesV Y Z (ix3 b s c) = Spec.clip (Y (ix4 b s (blkNo c) (laneNo c)) * Z (ix4 b s (blkNo c) (laneNo c))) := by
  unfold codesV Spec.clip blkNo laneNo
  simp only [id_eq]
  pointwise

/-! ## The results -/

/-- The scale. -/
theorem scl_apply (b : Fin 41) (s : Fin 1024) (j : Fin 28) :
    sclV (expV (amaxV X R g)) (ix3 b s j) = Spec.sclR (Spec.amaxG X R g b s j) := by
  rw [sclV_apply, exp_apply]
  unfold Spec.sclR
  with_reducible rfl

/-- The codes. -/
theorem codes_apply (b : Fin 41) (s : Fin 1024) (c : Fin 3584) :
    codesV (yV X R g) (invV (expV (amaxV X R g))) (ix3 b s c)
      = Spec.clip (Spec.yG X R g b s (blkNo c) (laneNo c) * Spec.invR (Spec.amaxG X R g b s (blkNo c))) := by
  rw [codesV_apply, yV_apply, invV_apply, exp_apply]
  unfold Spec.invR
  with_reducible rfl

/-- The reference runs from every memory, and leaves its results at those arrays and its arguments as they were. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = sumV (m ((c.tc : Thread nD τ).loc main_arg0)) (m ((c.tc : Thread nD τ).loc main_arg1))
      ∧ r.2.mem ((c.tc : Thread nD τ).loc main_v44)
        = codesV (yV (m ((c.tc : Thread nD τ).loc main_arg0)) (m ((c.tc : Thread nD τ).loc main_arg1)) (m ((c.tc : Thread nD τ).loc main_arg2)))
          (invV (expV (amaxV (m ((c.tc : Thread nD τ).loc main_arg0)) (m ((c.tc : Thread nD τ).loc main_arg1)) (m ((c.tc : Thread nD τ).loc main_arg2)))))
      ∧ r.2.mem ((c.tc : Thread nD τ).loc main_v35)
        = sclV (expV (amaxV (m ((c.tc : Thread nD τ).loc main_arg0)) (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ?_) (Cert.ReferenceIdeal.Value.run (F := Ideal) m ρ)
  obtain ⟨h0, h1, h2, k0, k1, k2⟩ := h c
  refine ⟨h0.trans ?_, h1.trans ?_, h2.trans ?_, k0, k1, k2⟩
  · unfold sumV
    with_reducible rfl
  · unfold Value.res_main_v44 codesV invV expV amaxV yV hV sumV cst
    with_reducible_and_instances rfl
  · unfold sclV expV amaxV yV hV sumV cst
    with_reducible rfl

end Cert.ReferenceIdeal.Own

end
-- ==== Proof.Mask.lean ====
/- The mask of the claim at an index: it is the range `Spec.InC` or `Spec.InS` of the block's largest magnitude. -/
module

public import proofs.«01_k».proof.Proof.Gen.On_in_range
public import proofs.«01_k».proof.Proof.Ref

@[expose] public section

set_option maxRecDepth 16384

noncomputable section

namespace Cert.On_in_range.Own

open Idealize.ShloMosaic Idealize.ShloMosaic.TcCoe Idealize.ShloMosaic.Tactic
open Cert.On_in_range Cert.On_in_range.Gen Cert
open Cert.KernelIdeal.Own (blkNo laneNo)
open Cert.ReferenceIdeal.Own (sumV hV yV amaxV amaxV_apply)

variable (X R : Spec.SX.Idx → EReal) (g : Spec.SG.Idx → EReal)

/-- A constant over the blocks. -/
def cst (w : BitVec 32) : FVec Ideal S41x1024x28 .f32 := broadcastInDim S41x1024x28 ![] bcast_S_S41x1024x28 (constant S_ .f32 w)

/-- The mask from the largest magnitudes, between two constants. -/
def maskV (lo hi : BitVec 32) (v : FVec Ideal S41x1024x28 .f32) : IVec S41x1024x28 1 :=
  ori (cmpf .oeq v (cst 0x00000000#32))
    (andi (cmpf .oge (mulf v (cst 0x3B124925#32)) (cst lo)) (cmpf .olt (mulf v (cst 0x3B124925#32)) (cst hi)))

theorem fn_s : (fn (F := Ideal) X R g).2.2 = maskV 0x00800000#32 0x7F000000#32 (amaxV X R g) := by
  unfold fn fn_part1 fn_part2 maskV amaxV yV hV sumV cst
  with_reducible rfl

theorem fn_c : (fn (F := Ideal) X R g).2.1
    = shapeCast S41x1024x3584 (broadcastInDim S41x1024x28x128 ![0, 1, 2, 3] bcast_S41x1024x28x1_S41x1024x28x128_0_1_2_3
        (broadcastInDim S41x1024x28x1 ![0, 1, 2] bcast_S41x1024x28_S41x1024x28x1_0_1_2 (maskV 0x00400000#32 0x7E800000#32 (amaxV X R g)))) shapeCasts_S41x1024x28x128_S41x1024x3584 := by
  unfold fn fn_part1 fn_part2 maskV amaxV yV hV sumV cst
  with_reducible rfl

theorem maskV_apply (lo hi : BitVec 32) (v : FVec Ideal S41x1024x28 .f32) (b : Fin 41) (s : Fin 1024) (j : Fin 28)
    (h : maskV lo hi v (ix3 b s j) = 1#1) :
    v (ix3 b s j) = 0 ∨ (Ideal.ofBits .f32 lo ≤ Spec.tOf (v (ix3 b s j)) ∧ Spec.tOf (v (ix3 b s j)) < Ideal.ofBits .f32 hi) := by
  unfold maskV cst at h
  pointwise at h
  unfold Spec.tOf
  generalize v (ix3 b s j) = a at h ⊢
  by_cases h0 : a = 0
  · exact .inl h0
  rw [decide_eq_false h0] at h
  refine .inr ⟨?_, ?_⟩
  · by_contra h1
    rw [decide_eq_false h1] at h
    revert h
    generalize decide (a * Ideal.ofBits .f32 0x3B124925#32 < Ideal.ofBits .f32 hi) = d
    revert d; decide
  · by_contra h1
    rw [decide_eq_false h1] at h
    revert h
    generalize decide (Ideal.ofBits .f32 lo ≤ a * Ideal.ofBits .f32 0x3B124925#32) = d
    revert d; decide

/-- Where the mask of the scales is set, the block is in range. -/
theorem mask_s (b : Fin 41) (s : Fin 1024) (j : Fin 28) (h : (fn (F := Ideal) X R g).2.2 (ix3 b s j) = 1#1) :
    Spec.InS (Spec.amaxG X R g b s j) := by
  rw [fn_s] at h
  rw [← amaxV_apply]
  exact maskV_apply _ _ _ b s j h

/-- The mask of the codes is that of their blocks. -/
theorem spread_apply (v : IVec S41x1024x28 1) (b : Fin 41) (s : Fin 1024) (c : Fin 3584) :
    shapeCast S41x1024x3584 (broadcastInDim S41x1024x28x128 ![0, 1, 2, 3] bcast_S41x1024x28x1_S41x1024x28x128_0_1_2_3
        (broadcastInDim S41x1024x28x1 ![0, 1, 2] bcast_S41x1024x28_S41x1024x28x1_0_1_2 v)) shapeCasts_S41x1024x28x128_S41x1024x3584 (ix3 b s c)
      = v (ix3 b s (blkNo c)) := by
  unfold blkNo
  pointwise

/-- Where the mask of the codes is set, their block is in range. -/
theorem mask_c (b : Fin 41) (s : Fin 1024) (c : Fin 3584) (h : (fn (F := Ideal) X R g).2.1 (ix3 b s c) = 1#1) :
    Spec.InC (Spec.amaxG X R g b s (blkNo c)) := by
  rw [fn_c, spread_apply] at h
  rw [← amaxV_apply]
  exact maskV_apply _ _ _ b s _ h

end Cert.On_in_range.Own

end
-- ==== Proof.Algebraic.lean ====
/- The kernel and the reference agree, as extended reals, wherever the mask is set. -/
module

public import proofs.«01_k».proof.Defs
public import proofs.«01_k».proof.Proof.KernelResults
public import proofs.«01_k».proof.Proof.Ref
public import proofs.«01_k».proof.Proof.Mask

@[expose] public section

set_option maxRecDepth 16384

noncomputable section

namespace Cert.Own

open Idealize.ShloMosaic Idealize.SL.Sem
open Cert.KernelIdeal.Own (blkNo laneNo codesK sclG aX aR aG)
open Cert.ReferenceIdeal.Own (yV amaxV expV sclV invV codesV)

variable (X R : Spec.SX.Idx → EReal) (g : Spec.SG.Idx → EReal)

/-- The codes agree where their mask is set. -/
theorem codes_agree (i : Spec.SX.Idx) (h : (Cert.On_in_range.fn (F := Ideal) X R g).2.1 i = 1#1) :
    codesV (yV X R g) (invV (expV (amaxV X R g))) i = codesK X R g i := by
  have key : ∀ (b : Fin 41) (s : Fin 1024) (c : Fin 3584), (Cert.On_in_range.fn (F := Ideal) X R g).2.1 (ix3 b s c) = 1#1 →
      codesV (yV X R g) (invV (expV (amaxV X R g))) (ix3 b s c) = codesK X R g (ix3 b s c) := fun b s c h => by
    refine (Cert.ReferenceIdeal.Own.codes_apply X R g b s c).trans ?_
    exact (Spec.code_eq (v := Spec.yG X R g b s (blkNo c)) (Cert.On_in_range.Own.mask_c X R g b s c h) (laneNo c)).symm
  have e : i = ix3 (i 0) (i 1) (i 2) := eq_ix3 i
  rw [e] at h ⊢
  exact key _ _ _ h

/-- The scales agree where their mask is set. -/
theorem scl_agree (i : Cert.KernelIdeal.S41x1024x28.Idx) (h : (Cert.On_in_range.fn (F := Ideal) X R g).2.2 i = 1#1) :
    sclV (expV (amaxV X R g)) i = sclG X R g i := by
  have key : ∀ (b : Fin 41) (s : Fin 1024) (j : Fin 28), (Cert.On_in_range.fn (F := Ideal) X R g).2.2 (ix3 b s j) = 1#1 →
      sclV (expV (amaxV X R g)) (ix3 b s j) = sclG X R g (ix3 b s j) := fun b s j h => by
    refine (Cert.ReferenceIdeal.Own.scl_apply X R g b s j).trans ?_
    exact (Spec.sclK_eq (Cert.On_in_range.Own.mask_s X R g b s j h)).symm
  have e : i = ix3 (i 0) (i 1) (i 2) := eq_ix3 i
  rw [e] at h ⊢
  exact key _ _ _ h

/-- The value claim. -/
theorem algebraic : Cert.algebraic_KernelIdeal_ReferenceIdeal_on_in_range := by
  intro m g m' g' _ hargs
  refine ⟨fun c => Spec.hG (aX m c) (aR m c), fun c => codesK (aX m c) (aR m c) (aG m c), fun c => sclG (aX m c) (aR m c) (aG m c), ?_, ?_⟩
  · refine (θ_run _ _ _).mono (fun r h c => ?_) (Cert.KernelIdeal.Own.results m g)
    obtain ⟨h0, h1, h2⟩ := h.1 c
    obtain ⟨k0, k1, k2⟩ := h.2 c
    exact ⟨fun i _ => congrFun h0 i, fun i _ => congrFun h1 i, fun i _ => congrFun h2 i, k0, k1, k2⟩
  · refine (θ_run _ _ _).mono (fun r h c => ?_) (Cert.ReferenceIdeal.Own.results m' g')
    obtain ⟨h0, h1, h2, k0, k1, k2⟩ := h c
    obtain ⟨a0, a1, a2⟩ := hargs c
    rw [a0, a1] at h0
    rw [a0, a1, a2] at h1 h2
    exact ⟨fun i _ => (congrFun h0 i).trans (congrFun (Cert.ReferenceIdeal.Own.sumV_eq (aX m c) (aR m c)) i),
      fun i hi => (congrFun h1 i).trans (codes_agree _ _ _ i hi),
      fun i hi => (congrFun h2 i).trans (scl_agree _ _ _ i hi), k0, k1, k2⟩

end Cert.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_in_range
public import proofs.«01_k».proof.Proof.FrameP
public import proofs.«01_k».proof.Proof.Algebraic
public import Idealize.ShloMosaic.Adequacy
public import Idealize.ShloMosaic.Init

@[expose] public section

noncomputable section

namespace Cert.Proof

open Idealize.ShloMosaic Idealize.SL.Sem

/-- The printed kernel: arguments unchanged, counters at zero. -/
theorem frame_kernel : Cert.quiescent_Kernel := fun m ρ _ => Cert.Kernel.Own.frame (F := Bits) m ρ

/-- The idealized kernel. -/
theorem frame_kernelIdeal : Cert.quiescent_KernelIdeal := fun m ρ _ => Cert.KernelIdeal.Own.frame m ρ

/-- The idealized reference, which declares no semaphore. -/
theorem frame_referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Own.results m ρ)

/-- The idealization: the one named constant's bits round its value. -/
theorem preserves : Cert.preserves_Kernel_KernelIdeal := IdealRules.named_const.statement _ _ _ _ _ rfl

theorem claim : Cert.Claim := ⟨Cert.Kernel.Gen.facts, Cert.KernelIdeal.Gen.facts, Cert.ReferenceIdeal.Gen.facts, Cert.On_in_range.Gen.facts,
  frame_kernel, frame_kernelIdeal, frame_referenceIdeal, preserves, Cert.Own.algebraic⟩

end Cert.Proof

end
